-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gating_finite [hPre_gating_finite : Cert.Pre_gating_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gating_finite [hPre_gating_finite : Cert.Pre_gating_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gating_finite [hKernelIdeal : Cert.KernelIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gating_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gating_finite [hReferenceIdeal : Cert.ReferenceIdeal.Facts] [hPre_gating_finite : Cert.Pre_gating_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gating_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_gating_finite [hKernelIdeal : Cert.KernelIdeal.Facts] [hReferenceIdeal : Cert.ReferenceIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gating_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_gating_finite : Cert.Pre_gating_finite.Facts),
    quiescent_Kernel (hKernel := hKernel)
    ∧ quiescent_KernelIdeal (hKernelIdeal := hKernelIdeal)
    ∧ quiescent_KernelIdeal_pre_gating_finite (hKernelIdeal := hKernelIdeal) (hPre_gating_finite := hPre_gating_finite)
    ∧ quiescent_ReferenceIdeal (hReferenceIdeal := hReferenceIdeal)
    ∧ quiescent_ReferenceIdeal_pre_gating_finite (hReferenceIdeal := hReferenceIdeal) (hPre_gating_finite := hPre_gating_finite)
    ∧ preserves_Kernel_KernelIdeal
    ∧ algebraic_KernelIdeal_ReferenceIdeal_pre_gating_finite (hKernelIdeal := hKernelIdeal) (hReferenceIdeal := hReferenceIdeal) (hPre_gating_finite := hPre_gating_finite)
-- ==== Pre_gating_finite.lean ====
abbrev S2048x1024 : Shape := ⟨2, ![2048, 1024]⟩
abbrev S8x2048x1024 : Shape := ⟨3, ![8, 2048, 1024]⟩
abbrev S8x2048 : Shape := ⟨2, ![8, 2048]⟩
abbrev S8x2048x2048 : Shape := ⟨3, ![8, 2048, 2048]⟩
abbrev S8x1024x2048 : Shape := ⟨3, ![8, 1024, 2048]⟩
abbrev S8x1024 : Shape := ⟨2, ![8, 1024]⟩
abbrev S64x1024 : Shape := ⟨2, ![64, 1024]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S2048x1024 : S_.BroadcastsInDim S2048x1024 (![] : Fin 0 → Fin S2048x1024.rank)
  bcast_S_S64x1024 : S_.BroadcastsInDim S64x1024 (![] : Fin 0 → Fin S64x1024.rank)
  bcast_S_S64 : S_.BroadcastsInDim S64 (![] : Fin 0 → Fin S64.rank)
  bcast_S_S8x64 : S_.BroadcastsInDim S8x64 (![] : Fin 0 → Fin S8x64.rank)
  bcast_S_S8 : S_.BroadcastsInDim S8 (![] : Fin 0 → Fin S8.rank)

variable [Facts]

def fn {F : FTy → Type} [FloatOps F] (main_arg0 : FVec F S2048x1024 .f32) (main_arg1 : FVec F S8x2048x1024 .f32) (main_arg2 : FVec F S8x2048 .f32) (main_arg3 : FVec F S8x2048x2048 .f32) (main_arg4 : FVec F S8x2048 .f32) (main_arg5 : FVec F S8x1024x2048 .f32) (main_arg6 : FVec F S8x1024 .f32) (main_arg7 : FVec F S64x1024 .f32) (main_arg8 : FVec F S64 .f32) (main_arg9 : FVec F S8x64 .f32) (main_arg10 : FVec F S8 .f32) : IVec S2048x1024 1 × IVec S64x1024 1 × IVec S64 1 × IVec S8x64 1 × IVec S8 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S64x1024 .f32 := Host.absf main_arg7
  let main_cst_0 : FVec F S_ .f32 := constant S_ .f32 0x7F800000#32
  let main_v4 : FVec F S64x1024 .f32 := broadcastInDim S64x1024 ![] bcast_S_S64x1024 main_cst_0
  let main_v5 : IVec S64x1024 1 := cmpf .olt main_v3 main_v4
  let main_v6 : FVec F S64 .f32 := Host.absf main_arg8
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S8x64 .f32 := Host.absf main_arg9
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_v12 : FVec F S8 .f32 := Host.absf main_arg10
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Kernel.lean ====
abbrev S2048x1024 : Shape := ⟨2, ![2048, 1024]⟩
abbrev S8x2048x1024 : Shape := ⟨3, ![8, 2048, 1024]⟩
abbrev S8x2048 : Shape := ⟨2, ![8, 2048]⟩
abbrev S8x2048x2048 : Shape := ⟨3, ![8, 2048, 2048]⟩
abbrev S8x1024x2048 : Shape := ⟨3, ![8, 1024, 2048]⟩
abbrev S8x1024 : Shape := ⟨2, ![8, 1024]⟩
abbrev S64x1024 : Shape := ⟨2, ![64, 1024]⟩
abbrev S64 : Shape := ⟨1, ![64]⟩
abbrev S8x64 : Shape := ⟨2, ![8, 64]⟩
abbrev S8 : Shape := ⟨1, ![8]⟩
abbrev S1024x2048 : Shape := ⟨2, ![1024, 2048]⟩
abbrev S8x2048x1 : Shape := ⟨3, ![8, 2048, 1]⟩
abbrev S8x1024x1 : Shape := ⟨3, ![8, 1024, 1]⟩
abbrev S64x1 : Shape := ⟨2, ![64, 1]⟩
abbrev S8x1 : Shape := ⟨2, ![8, 1]⟩
abbrev S1x512x1024 : Shape := ⟨3, ![1, 512, 1024]⟩
abbrev S1x512x1 : Shape := ⟨3, ![1, 512, 1]⟩
abbrev S1x512x2048 : Shape := ⟨3, ![1, 512, 2048]⟩
abbrev S1x256x2048 : Shape := ⟨3, ![1, 256, 2048]⟩
abbrev S1x256x1 : Shape := ⟨3, ![1, 256, 1]⟩
abbrev S1x2048 : Shape := ⟨2, ![1, 2048]⟩
abbrev S2048x2048 : Shape := ⟨2, ![2048, 2048]⟩
abbrev S64x2048 : Shape := ⟨2, ![64, 2048]⟩
abbrev S2048 : Shape := ⟨1, ![2048]⟩
abbrev S512x1024 : Shape := ⟨2, ![512, 1024]⟩
abbrev S512x2048 : Shape := ⟨2, ![512, 2048]⟩
abbrev S512x1 : Shape := ⟨2, ![512, 1]⟩
abbrev S256x2048 : Shape := ⟨2, ![256, 2048]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S8x2048x1024, .f32⟩
  | .hbm, ⟨2, _⟩ => ⟨S8x2048, .f32⟩
  | .hbm, ⟨3, _⟩ => ⟨S8x2048x2048, .f32⟩
  | .hbm, ⟨4, _⟩ => ⟨S8x2048, .f32⟩
  | .hbm, ⟨5, _⟩ => ⟨S8x1024x2048, .f32⟩
  | .hbm, ⟨6, _⟩ => ⟨S8x1024, .f32⟩
  | .hbm, ⟨7, _⟩ => ⟨S64x1024, .f32⟩
  | .hbm, ⟨8, _⟩ => ⟨S64, .f32⟩
  | .hbm, ⟨9, _⟩ => ⟨S8x64, .f32⟩
  | .hbm, ⟨10, _⟩ => ⟨S8, .f32⟩
  | .hbm, ⟨11, _⟩ => ⟨S1024x2048, .f32⟩
  | .hbm, ⟨12, _⟩ => ⟨S1024x2048, .bf16⟩
  | .hbm, ⟨13, _⟩ => ⟨S8x2048x1, .f32⟩
  | .hbm, ⟨14, _⟩ => ⟨S8x2048x1, .f32⟩
  | .hbm, ⟨15, _⟩ => ⟨S8x1024x1, .f32⟩
  | .hbm, ⟨16, _⟩ => ⟨S64x1, .f32⟩
  | .hbm, ⟨17, _⟩ => ⟨S8x1, .f32⟩
  | .hbm, ⟨18, _⟩ => ⟨S1024x2048, .f32⟩
  | .hbm, ⟨19, _⟩ => ⟨S2048x1024, .f32⟩
  | .local _ .vmem, ⟨0, _⟩ => ⟨S1024x2048, .bf16⟩
  | .local _ .vmem, ⟨1, _⟩ => ⟨S1x512x1024, .f32⟩
  | .local _ .vmem, ⟨2, _⟩ => ⟨S1x512x1024, .f32⟩
  | .local _ .vmem, ⟨3, _⟩ => ⟨S1x512x1, .f32⟩
  | .local _ .vmem, ⟨4, _⟩ => ⟨S1x512x1, .f32⟩
  | .local _ .vmem, ⟨5, _⟩ => ⟨S1x512x2048, .f32⟩
  | .local _ .vmem, ⟨6, _⟩ => ⟨S1x512x2048, .f32⟩
  | .local _ .vmem, ⟨7, _⟩ => ⟨S1x512x1, .f32⟩
  | .local _ .vmem, ⟨8, _⟩ => ⟨S1x512x1, .f32⟩
  | .local _ .vmem, ⟨9, _⟩ => ⟨S1x256x2048, .f32⟩
  | .local _ .vmem, ⟨10, _⟩ => ⟨S1x256x2048, .f32⟩
  | .local _ .vmem, ⟨11, _⟩ => ⟨S1x256x1, .f32⟩
  | .local _ .vmem, ⟨12, _⟩ => ⟨S1x256x1, .f32⟩
  | .local _ .vmem, ⟨13, _⟩ => ⟨S64x1024, .f32⟩
  | .local _ .vmem, ⟨14, _⟩ => ⟨S64x1, .f32⟩
  | .local _ .vmem, ⟨15, _⟩ => ⟨S8x64, .f32⟩
  | .local _ .vmem, ⟨16, _⟩ => ⟨S8x1, .f32⟩
  | .local _ .vmem, ⟨17, _⟩ => ⟨S1024x2048, .f32⟩
  | .local _ .vmem, ⟨18, _⟩ => ⟨S8x2048, .f32⟩
  | .local _ .vmem, ⟨19, _⟩ => ⟨S1x2048, .f32⟩
  | .local _ .vmem, ⟨20, _⟩ => ⟨S2048x2048, .bf16⟩
  | .local _ .vmem, ⟨21, _⟩ => ⟨S2048x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨3, ![8, 3, 4], ![false, false, false]⟩

def k0_cond3 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off1 (i : grid0.Coords) : Fin 2 → Nat :=
  let arg2 : BitVec 32 := BitVec.ofNat 32 (i 2).val
  let c512_i32 : BitVec 32 := 512#32
  let v34 : BitVec 32 := Scalar.muli arg2 c512_i32
  let v35 : Index := Scalar.indexCast v34
  let c0_18 : Index := 0#32
  ![v35.toNat, 0]
def k0_cond4 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_8 : BitVec 32 := 0#32
  let v17 : BitVec 1 := Scalar.cmpi .ne v16 c0_i32_8
  v17

def k0_off2 (i : grid0.Coords) : Fin 2 → Nat :=
  let arg2 : BitVec 32 := BitVec.ofNat 32 (i 2).val
  let c512_i32 : BitVec 32 := 512#32
  let v36 : BitVec 32 := Scalar.muli arg2 c512_i32
  let v37 : Index := Scalar.indexCast v36
  let c0_20 : Index := 0#32
  ![v37.toNat, 0]
def k0_cond5 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_9 : BitVec 32 := 0#32
  let v20 : BitVec 1 := Scalar.cmpi .ne v19 c0_i32_9
  v20

def k0_cond6 (i : grid0.Coords) : BitVec 1 :=
  let arg0 : BitVec 32 := BitVec.ofNat 32 (i 0).val
  let c0_i32_19 : BitVec 32 := 0#32
  let v33 : BitVec 1 := Scalar.cmpi .eq arg0 c0_i32_19
  let v34 : BitVec 32 := Scalar.extui v33
  let c0_i32_20 : BitVec 32 := 0#32
  let v35 : BitVec 1 := Scalar.cmpi .ne v34 c0_i32_20
  v35

def k0_off3 (i : grid0.Coords) : Fin 2 → Nat :=
  let arg2 : BitVec 32 := BitVec.ofNat 32 (i 2).val
  let c256_i32 : BitVec 32 := 256#32
  let v39 : BitVec 32 := Scalar.muli arg2 c256_i32
  let v40 : Index := Scalar.indexCast v39
  let c0_23 : Index := 0#32
  ![v40.toNat, 0]
def k0_cond7 (i : grid0.Coords) : BitVec 1 :=
  let arg0 : BitVec 32 := BitVec.ofNat 32 (i 0).val
  let c0_i32_21 : BitVec 32 := 0#32
  let v36 : BitVec 1 := Scalar.cmpi .ne arg0 c0_i32_21
  let v37 : BitVec 32 := Scalar.extui v36
  let c0_i32_22 : BitVec 32 := 0#32
  let v38 : BitVec 1 := Scalar.cmpi .ne v37 c0_i32_22
  v38

def k0_off4 (i : grid0.Coords) : Fin 2 → Nat :=
  let arg2 : BitVec 32 := BitVec.ofNat 32 (i 2).val
  let c256_i32 : BitVec 32 := 256#32
  let v39 : BitVec 32 := Scalar.muli arg2 c256_i32
  let v40 : Index := Scalar.indexCast v39
  let c0_23 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 1 := Scalar.cmpi .eq arg1 c0_i32
  let c0_i32_0 : BitVec 32 := 0#32
  let c3_i32 : BitVec 32 := 3#32
  let v2 : BitVec 32 := Scalar.select v1 c0_i32_0 c3_i32
  let v3 : BitVec 32 := Scalar.select v0 arg2 v2
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 1 := Scalar.cmpi .eq arg1 c0_i32
  let c0_i32_0 : BitVec 32 := 0#32
  let c3_i32 : BitVec 32 := 3#32
  let v2 : BitVec 32 := Scalar.select v1 c0_i32_0 c3_i32
  let v3 : BitVec 32 := Scalar.select v0 arg2 v2
  let c0_i32_1 : BitVec 32 := 0#32
  let c0_i32_2 : BitVec 32 := 0#32
  ![arg0.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== ReferenceIdeal.lean ====
abbrev S2048x1024 : Shape := ⟨2, ![2048, 1024]⟩
abbrev S8x2048x1024 : Shape := ⟨3, ![8, 2048, 1024]⟩
abbrev S8x2048 : Shape := ⟨2, ![8, 2048]⟩
abbrev S8x2048x2048 : Shape := ⟨3, ![8, 2048, 2048]⟩
abbrev S8x1024x2048 : Shape := ⟨3, ![8, 1024, 2048]⟩
abbrev S8x1024 : Shape := ⟨2, ![8, 1024]⟩
abbrev S64x1024 : Shape := ⟨2, ![64, 1024]⟩
abbrev S64 : Shape := ⟨1, ![64]⟩
abbrev S8x64 : Shape := ⟨2, ![8, 64]⟩
abbrev S8 : Shape := ⟨1, ![8]⟩
abbrev S1024x64 : Shape := ⟨2, ![1024, 64]⟩
abbrev S2048x64 : Shape := ⟨2, ![2048, 64]⟩
abbrev S1x64 : Shape := ⟨2, ![1, 64]⟩
abbrev S_ : Shape := ⟨0, ![]⟩
abbrev S64x8 : Shape := ⟨2, ![64, 8]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S8x1x2048 : Shape := ⟨3, ![8, 1, 2048]⟩
abbrev S8x1x1024 : Shape := ⟨3, ![8, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2048x1024, .f32⟩
  | .hbm, ⟨2, _⟩ => ⟨S8x2048, .f32⟩
  | .hbm, ⟨3, _⟩ => ⟨S8x2048x2048, .f32⟩
  | .hbm, ⟨4, _⟩ => ⟨S8x2048, .f32⟩
  | .hbm, ⟨5, _⟩ => ⟨S8x1024x2048, .f32⟩
  | .hbm, ⟨6, _⟩ => ⟨S8x1024, .f32⟩
  | .hbm, ⟨7, _⟩ => ⟨S64x1024, .f32⟩
  | .hbm, ⟨8, _⟩ => ⟨S64, .f32⟩
  | .hbm, ⟨9, _⟩ => ⟨S8x64, .f32⟩
  | .hbm, ⟨10, _⟩ => ⟨S8, .f32⟩
  | .hbm, ⟨11, _⟩ => ⟨S1024x64, .f32⟩
  | .hbm, ⟨12, _⟩ => ⟨S2048x64, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S_, .f32⟩
  | .hbm, ⟨17, _⟩ => ⟨S2048x64, .f32⟩
  | .hbm, ⟨18, _⟩ => ⟨S2048x64, .f32⟩
  | .hbm, ⟨19, _⟩ => ⟨S64x8, .f32⟩
  | .hbm, ⟨20, _⟩ => ⟨S2048x8, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x8, .f32⟩
  | .hbm, ⟨37, _⟩ => ⟨S2048x8, .f32⟩
  | .hbm, ⟨38, _⟩ => ⟨S8x2048x2048, .f32⟩
  | .hbm, ⟨39, _⟩ => ⟨S8x2048x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x1x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.Same.lean ====
/- The kernel as printed for the bits and as printed for the exact numbers are one program: the two texts
   unfold to the same term, at every interpretation of the floats. So a theorem about one is a theorem about
   the other. -/
module

public import proofs.«01_k».proof.Proof.Gen.KernelIdeal
public import proofs.«01_k».proof.Proof.Gen.Kernel

@[expose] public section

noncomputable section

namespace Cert.Same

open Idealize.ShloMosaic

variable {F : FTy → Type} [FloatOps F]

/-- The two printed `main`s are one program. -/
theorem main_same : (Cert.Kernel.main (F := F)) = Cert.KernelIdeal.main (F := F) := rfl

/-- The two printed tables of kernel bodies are one table. -/
theorem bodies_same : (Cert.Kernel.defs₀ (F := F)) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  match l, a with
  | ⟨0, _⟩, (t, s) => rfl

/-- The two printed tables of bodies, with the pipeline's own, are one table. -/
theorem defs_same : (Cert.Kernel.defs (F := F)) = Cert.KernelIdeal.defs (F := F) := by
  unfold Cert.Kernel.defs Cert.KernelIdeal.defs
  rw [bodies_same]
  rfl

end Cert.Same

end
-- ==== Proof.State.lean ====
/- The kernel's carried state as a mathematical object: what the four scratch buffers and the output's staging
   buffer hold after one grid point, as a function of what they held before it and of the point's input blocks. -/
module

public import proofs.«01_k».proof.Proof.Gen.KernelIdeal
public import proofs.«01_k».proof.Proof.Gen.KernelIdeal.Skeleton
public import proofs.«01_k».proof.Proof.Gen.KernelIdeal.Frame
public import Idealize.ShloMosaic.Lib.VecWindow

@[expose] public section

noncomputable section

namespace Cert.MoE

open Cert.KernelIdeal Cert.KernelIdeal.Gen
open Idealize.ShloMosaic

variable {F : FTy → Type} [FloatOps F]

/-- The condition under which the gates are computed, as the kernel tests it: all three coordinates are zero. -/
abbrev atStart (i : grid0.Coords) : Prop :=
  Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32)))) 0#32 = 1#1

/-- The condition under which the expert's gate row is picked out, as the kernel tests it: phase and block are zero. -/
abbrev atExpert (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- What the four scratch buffers hold: all gates, one expert's gate row, the first and the second hidden layer. -/
structure Scratch (F : FTy → Type) [FloatOps F] where
  gates : S8x2048.Idx → Elt F .f32
  row : S1x2048.Idx → Elt F .f32
  h1 : S2048x2048.Idx → Elt F .bf16
  h2 : S2048x2048.Idx → Elt F .bf16

/-- The eleven input blocks a grid point is given. -/
structure Blocks (F : FTy → Type) [FloatOps F] where
  x : S1024x2048.Idx → Elt F .bf16
  w1 : S1x512x1024.Idx → Elt F .f32
  b1 : S1x512x1.Idx → Elt F .f32
  w2 : S1x512x2048.Idx → Elt F .f32
  b2 : S1x512x1.Idx → Elt F .f32
  w3 : S1x256x2048.Idx → Elt F .f32
  b3 : S1x256x1.Idx → Elt F .f32
  wg1 : S64x1024.Idx → Elt F .f32
  bg1 : S64x1.Idx → Elt F .f32
  wg2 : S8x64.Idx → Elt F .f32
  bg2 : S8x1.Idx → Elt F .f32

open Classical in
/-- The gates after the point. -/
def gatesAfter (i : grid0.Coords) (X : Blocks F) (s : Scratch F) : S8x2048.Idx → Elt F .f32 :=
  if atStart i then k0_pay1 X.wg1 X.x X.bg1 X.wg2 X.bg2 else s.gates

open Classical in
/-- The expert's gate row after the point. -/
def rowAfter (i : grid0.Coords) (X : Blocks F) (s : Scratch F) : S1x2048.Idx → Elt F .f32 :=
  if atExpert i then k0_pay2 i (gatesAfter i X s) else s.row

open Classical in
/-- The first hidden layer after the point: in phase 0, one block of 512 rows rewritten. -/
def h1After (i : grid0.Coords) (X : Blocks F) (s : Scratch F) : S2048x2048.Idx → Elt F .bf16 :=
  if k0_cond3 i = 1#1 then VecWindow.put s.h1 (k0_off1 i) S512x2048.size (k0_pay3 X.w1 X.x X.b1) else s.h1

open Classical in
/-- The second hidden layer after the point: in phase 1, one block of 512 rows rewritten. -/
def h2After (i : grid0.Coords) (X : Blocks F) (s : Scratch F) : S2048x2048.Idx → Elt F .bf16 :=
  if k0_cond4 i = 1#1 then VecWindow.put s.h2 (k0_off2 i) S512x2048.size (k0_pay4 X.w2 s.h1 X.b2 s.row) else s.h2

/-- The scratch buffers after the point. -/
def scratchAfter (i : grid0.Coords) (X : Blocks F) (s : Scratch F) : Scratch F :=
  ⟨gatesAfter i X s, rowAfter i X s, h1After i X s, h2After i X s⟩

open Classical in
/-- The output's staging buffer after the point: in phase 2, one block of 256 rows, stored by the first expert and
    added to by every later one. -/
def outAfter (i : grid0.Coords) (X : Blocks F) (s : Scratch F) (Y : S1024x2048.Idx → Elt F .f32) : S1024x2048.Idx → Elt F .f32 :=
  if h5 : k0_cond5 i = 1#1 then
    if k0_cond6 i = 1#1 then VecWindow.put Y (k0_off3 i) S256x2048.size (k0_pay5 X.w3 s.h2 s.row X.b3)
    else if h7 : k0_cond7 i = 1#1 then
      VecWindow.put Y (k0_off4 i) S256x2048.size
        (k0_pay6 X.w3 s.h2 s.row X.b3 (VecWindow.window Y (k0_off4 i) S256x2048.size (k0_off4_inb i h5 h7)))
    else Y
  else Y

/-- Every point is of one of five kinds: the start, another expert's start, the rest of phase 0, phase 1, phase 2. -/
theorem kinds : ∀ i : grid0.Coords,
    (atStart i ∧ atExpert i ∧ k0_cond3 i = 1#1 ∧ ¬ k0_cond4 i = 1#1 ∧ ¬ k0_cond5 i = 1#1)
    ∨ (¬ atStart i ∧ atExpert i ∧ k0_cond3 i = 1#1 ∧ ¬ k0_cond4 i = 1#1 ∧ ¬ k0_cond5 i = 1#1)
    ∨ (¬ atStart i ∧ ¬ atExpert i ∧ k0_cond3 i = 1#1 ∧ ¬ k0_cond4 i = 1#1 ∧ ¬ k0_cond5 i = 1#1)
    ∨ (¬ atStart i ∧ ¬ atExpert i ∧ ¬ k0_cond3 i = 1#1 ∧ k0_cond4 i = 1#1 ∧ ¬ k0_cond5 i = 1#1)
    ∨ (¬ atStart i ∧ ¬ atExpert i ∧ ¬ k0_cond3 i = 1#1 ∧ ¬ k0_cond4 i = 1#1 ∧ k0_cond5 i = 1#1) := by decide +kernel

/-- Every point is the first expert's or a later expert's, as the kernel's two tests say. -/
theorem firstOrLater : ∀ i : grid0.Coords,
    (k0_cond6 i = 1#1 ∧ ¬ k0_cond7 i = 1#1) ∨ (¬ k0_cond6 i = 1#1 ∧ k0_cond7 i = 1#1) := by decide +kernel

end Cert.MoE

end
-- ==== Proof.Body.lean ====
/- The kernel's body at one grid point, run on any sixteen buffers: from the input blocks, the output's staging
   buffer and the four scratch buffers it ends with the input blocks as they were and the rest as `State.lean` says. -/
module

public import proofs.«01_k».proof.Proof.State
public import Idealize.ShloMosaic.Lib.Tactic

@[expose] public section

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The core holds the whole memref and reads `X` through it. -/
abbrev holds (c : Dev nD) {sh : Shape} {e : EltTy} (M : Memref sig .tc .vmem sh e) (X : sh.Idx → Elt F e) : sProp 𝕄 :=
  owns (c : Thread nD τ) M fullShare X

section Pure

variable {i : grid0.Coords} {X : Blocks F} {s : Scratch F} {Y : S1024x2048.Idx → Elt F .f32}
  {A3 : Memref sig .tc .vmem S1024x2048 .bf16} {f3 : A3.view.ty.Contents (Elt F)}
  {A4 : Memref sig .tc .vmem S1x512x1024 .f32} {f4 : A4.view.ty.Contents (Elt F)}
  {A5 : Memref sig .tc .vmem S1x512x1 .f32} {f5 : A5.view.ty.Contents (Elt F)}
  {A6 : Memref sig .tc .vmem S1x512x2048 .f32} {f6 : A6.view.ty.Contents (Elt F)}
  {A7 : Memref sig .tc .vmem S1x512x1 .f32} {f7 : A7.view.ty.Contents (Elt F)}
  {A8 : Memref sig .tc .vmem S1x256x2048 .f32} {f8 : A8.view.ty.Contents (Elt F)}
  {A9 : Memref sig .tc .vmem S1x256x1 .f32} {f9 : A9.view.ty.Contents (Elt F)}
  {A10 : Memref sig .tc .vmem S64x1024 .f32} {f10 : A10.view.ty.Contents (Elt F)}
  {A11 : Memref sig .tc .vmem S64x1 .f32} {f11 : A11.view.ty.Contents (Elt F)}
  {A12 : Memref sig .tc .vmem S8x64 .f32} {f12 : A12.view.ty.Contents (Elt F)}
  {A13 : Memref sig .tc .vmem S8x1 .f32} {f13 : A13.view.ty.Contents (Elt F)}
  {A14 : Memref sig .tc .vmem S1024x2048 .f32} {f14 : A14.view.ty.Contents (Elt F)}
  {A15 : Memref sig .tc .vmem S8x2048 .f32} {f15 : A15.view.ty.Contents (Elt F)}
  {A16 : Memref sig .tc .vmem S1x2048 .f32} {f16 : A16.view.ty.Contents (Elt F)}
  {A17 : Memref sig .tc .vmem S2048x2048 .bf16} {f17 : A17.view.ty.Contents (Elt F)}
  {A18 : Memref sig .tc .vmem S2048x2048 .bf16} {f18 : A18.view.ty.Contents (Elt F)}

/-- Outside the start the gates stay. -/
theorem gates_kept (h : ¬ atStart i) (g : A15.view.read (Elt F) f15 = s.gates) :
    A15.view.read (Elt F) f15 = gatesAfter i X s := by
  rw [gatesAfter, if_neg h, g]

/-- Outside an expert's start its gate row stays. -/
theorem row_kept (h : ¬ atExpert i) (g : A16.view.read (Elt F) f16 = s.row) :
    A16.view.read (Elt F) f16 = rowAfter i X s := by
  rw [rowAfter, if_neg h, g]

/-- Outside phase 0 the first layer stays. -/
theorem h1_kept (h : ¬ k0_cond3 i = 1#1) (g : A17.view.read (Elt F) f17 = s.h1) :
    A17.view.read (Elt F) f17 = h1After i X s := by
  rw [h1After, if_neg h, g]

/-- Outside phase 1 the second layer stays. -/
theorem h2_kept (h : ¬ k0_cond4 i = 1#1) (g : A18.view.read (Elt F) f18 = s.h2) :
    A18.view.read (Elt F) f18 = h2After i X s := by
  rw [h2After, if_neg h, g]

/-- Outside phase 2 the output's staging buffer stays. -/
theorem out_kept (h : ¬ k0_cond5 i = 1#1) (g : A14.view.read (Elt F) f14 = Y) :
    A14.view.read (Elt F) f14 = outAfter i X s Y := by
  rw [outAfter, dif_neg h, g]

/-- At the start the gates are stored. -/
theorem gates_new (h : atStart i) (g10 : A10.view.read (Elt F) f10 = X.wg1) (g3 : A3.view.read (Elt F) f3 = X.x)
    (g11 : A11.view.read (Elt F) f11 = X.bg1) (g12 : A12.view.read (Elt F) f12 = X.wg2) (g13 : A13.view.read (Elt F) f13 = X.bg2) :
    A15.view.read (Elt F) (A15.view.writes (Elt F) f15 [⟨Rect.unit (s := S8x2048) ![0, 0] S8x2048.size inb_S8x2048_S8x2048_0_0,
      k0_pay1 (A10.view.readAt (Elt F) (Rect.unit (s := S64x1024) ![0, 0] S64x1024.size inb_S64x1024_S64x1024_0_0).toLoadRect f10)
        (A3.view.readAt (Elt F) (Rect.unit (s := S1024x2048) ![0, 0] S1024x2048.size inb_S1024x2048_S1024x2048_0_0).toLoadRect f3)
        (A11.view.readAt (Elt F) (Rect.unit (s := S64x1) ![0, 0] S64x1.size inb_S64x1_S64x1_0_0).toLoadRect f11)
        (A12.view.readAt (Elt F) (Rect.unit (s := S8x64) ![0, 0] S8x64.size inb_S8x64_S8x64_0_0).toLoadRect f12)
        (A13.view.readAt (Elt F) (Rect.unit (s := S8x1) ![0, 0] S8x1.size inb_S8x1_S8x1_0_0).toLoadRect f13)⟩])
      = gatesAfter i X s := by
  rw [gatesAfter, if_pos h, View.read_writes_full, View.readAt_full, View.readAt_full, View.readAt_full, View.readAt_full,
    View.readAt_full, g10, g3, g11, g12, g13]

/-- At the start the load that follows the store of the gates reads them. -/
theorem gates_back (h : atStart i) (g10 : A10.view.read (Elt F) f10 = X.wg1) (g3 : A3.view.read (Elt F) f3 = X.x)
    (g11 : A11.view.read (Elt F) f11 = X.bg1) (g12 : A12.view.read (Elt F) f12 = X.wg2) (g13 : A13.view.read (Elt F) f13 = X.bg2) :
    A15.view.readCov [⟨Rect.unit (s := S8x2048) ![0, 0] S8x2048.size inb_S8x2048_S8x2048_0_0,
      k0_pay1 (A10.view.readAt (Elt F) (Rect.unit (s := S64x1024) ![0, 0] S64x1024.size inb_S64x1024_S64x1024_0_0).toLoadRect f10)
        (A3.view.readAt (Elt F) (Rect.unit (s := S1024x2048) ![0, 0] S1024x2048.size inb_S1024x2048_S1024x2048_0_0).toLoadRect f3)
        (A11.view.readAt (Elt F) (Rect.unit (s := S64x1) ![0, 0] S64x1.size inb_S64x1_S64x1_0_0).toLoadRect f11)
        (A12.view.readAt (Elt F) (Rect.unit (s := S8x64) ![0, 0] S8x64.size inb_S8x64_S8x64_0_0).toLoadRect f12)
        (A13.view.readAt (Elt F) (Rect.unit (s := S8x1) ![0, 0] S8x1.size inb_S8x1_S8x1_0_0).toLoadRect f13)⟩]
      (Rect.unit (s := S8x2048) ![0, 0] S8x2048.size inb_S8x2048_S8x2048_0_0).toLoadRect = gatesAfter i X s := by
  rw [gatesAfter, if_pos h, View.readCov_full, View.readAt_full, View.readAt_full, View.readAt_full, View.readAt_full,
    View.readAt_full, g10, g3, g11, g12, g13]

/-- At an expert's start its gate row is stored, picked out of whatever gates were loaded. -/
theorem row_new (h : atExpert i) {v : S8x2048.Idx → Elt F .f32} (hv : v = gatesAfter i X s) :
    A16.view.read (Elt F) (A16.view.writes (Elt F) f16 [⟨Rect.unit (s := S1x2048) ![0, 0] S1x2048.size inb_S1x2048_S1x2048_0_0,
      k0_pay2 i v⟩]) = rowAfter i X s := by
  rw [rowAfter, if_pos h, View.read_writes_full, hv]

/-- At a later expert's start the gates loaded are the ones carried. -/
theorem gates_load (h : ¬ atStart i) (g : A15.view.read (Elt F) f15 = s.gates) :
    (A15.view.readAt (Elt F) (Rect.unit (s := S8x2048) ![0, 0] S8x2048.size inb_S8x2048_S8x2048_0_0).toLoadRect f15) = gatesAfter i X s := by
  rw [gatesAfter, if_neg h, View.readAt_full, g]

/-- In phase 0 a block of the first layer is stored. -/
theorem h1_new (h : k0_cond3 i = 1#1) (g4 : A4.view.read (Elt F) f4 = X.w1) (g3 : A3.view.read (Elt F) f3 = X.x)
    (g5 : A5.view.read (Elt F) f5 = X.b1) (g17 : A17.view.read (Elt F) f17 = s.h1) :
    A17.view.read (Elt F) (A17.view.writes (Elt F) f17 [⟨Rect.unit (s := S2048x2048) (k0_off1 i) S512x2048.size (k0_off1_inb i h),
      k0_pay3 (A4.view.readAt (Elt F) (Rect.unit (s := S1x512x1024) ![0, 0, 0] S1x512x1024.size inb_S1x512x1024_S1x512x1024_0_0_0).toLoadRect f4)
        (A3.view.readAt (Elt F) (Rect.unit (s := S1024x2048) ![0, 0] S1024x2048.size inb_S1024x2048_S1024x2048_0_0).toLoadRect f3)
        (A5.view.readAt (Elt F) (Rect.unit (s := S1x512x1) ![0, 0, 0] S1x512x1.size inb_S1x512x1_S1x512x1_0_0_0).toLoadRect f5)⟩]) = h1After i X s := by
  rw [h1After, if_pos h, View.read_writes_cons_put _ _ _ _ _ rfl, View.writes_nil, View.readAt_full, View.readAt_full,
    View.readAt_full, g4, g3, g5, g17]

/-- In phase 1 a block of the second layer is stored. -/
theorem h2_new (h : k0_cond4 i = 1#1) (g6 : A6.view.read (Elt F) f6 = X.w2) (g17 : A17.view.read (Elt F) f17 = s.h1)
    (g7 : A7.view.read (Elt F) f7 = X.b2) (g16 : A16.view.read (Elt F) f16 = s.row) (g18 : A18.view.read (Elt F) f18 = s.h2) :
    A18.view.read (Elt F) (A18.view.writes (Elt F) f18 [⟨Rect.unit (s := S2048x2048) (k0_off2 i) S512x2048.size (k0_off2_inb i h),
      k0_pay4 (A6.view.readAt (Elt F) (Rect.unit (s := S1x512x2048) ![0, 0, 0] S1x512x2048.size inb_S1x512x2048_S1x512x2048_0_0_0).toLoadRect f6)
        (A17.view.readAt (Elt F) (Rect.unit (s := S2048x2048) ![0, 0] S2048x2048.size inb_S2048x2048_S2048x2048_0_0).toLoadRect f17)
        (A7.view.readAt (Elt F) (Rect.unit (s := S1x512x1) ![0, 0, 0] S1x512x1.size inb_S1x512x1_S1x512x1_0_0_0).toLoadRect f7)
        (A16.view.readAt (Elt F) (Rect.unit (s := S1x2048) ![0, 0] S1x2048.size inb_S1x2048_S1x2048_0_0).toLoadRect f16)⟩]) = h2After i X s := by
  rw [h2After, if_pos h, View.read_writes_cons_put _ _ _ _ _ rfl, View.writes_nil, View.readAt_full, View.readAt_full,
    View.readAt_full, View.readAt_full, g6, g17, g7, g16, g18]

/-- In phase 2 the first expert stores a block of the output. -/
theorem out_first (h5 : k0_cond5 i = 1#1) (h6 : k0_cond6 i = 1#1) (g8 : A8.view.read (Elt F) f8 = X.w3)
    (g18 : A18.view.read (Elt F) f18 = s.h2) (g16 : A16.view.read (Elt F) f16 = s.row) (g9 : A9.view.read (Elt F) f9 = X.b3)
    (g14 : A14.view.read (Elt F) f14 = Y) :
    A14.view.read (Elt F) (A14.view.writes (Elt F) f14 [⟨Rect.unit (s := S1024x2048) (k0_off3 i) S256x2048.size (k0_off3_inb i h5 h6),
      k0_pay5 (A8.view.readAt (Elt F) (Rect.unit (s := S1x256x2048) ![0, 0, 0] S1x256x2048.size inb_S1x256x2048_S1x256x2048_0_0_0).toLoadRect f8)
        (A18.view.readAt (Elt F) (Rect.unit (s := S2048x2048) ![0, 0] S2048x2048.size inb_S2048x2048_S2048x2048_0_0).toLoadRect f18)
        (A16.view.readAt (Elt F) (Rect.unit (s := S1x2048) ![0, 0] S1x2048.size inb_S1x2048_S1x2048_0_0).toLoadRect f16)
        (A9.view.readAt (Elt F) (Rect.unit (s := S1x256x1) ![0, 0, 0] S1x256x1.size inb_S1x256x1_S1x256x1_0_0_0).toLoadRect f9)⟩]) = outAfter i X s Y := by
  rw [outAfter, dif_pos h5, if_pos h6, View.read_writes_cons_put _ _ _ _ _ rfl, View.writes_nil, View.readAt_full, View.readAt_full,
    View.readAt_full, View.readAt_full, g8, g18, g16, g9, g14]

/-- In phase 2 a later expert adds to a block of the output. -/
theorem out_later (h5 : k0_cond5 i = 1#1) (h6 : ¬ k0_cond6 i = 1#1) (h7 : k0_cond7 i = 1#1) (g8 : A8.view.read (Elt F) f8 = X.w3)
    (g18 : A18.view.read (Elt F) f18 = s.h2) (g16 : A16.view.read (Elt F) f16 = s.row) (g9 : A9.view.read (Elt F) f9 = X.b3)
    (g14 : A14.view.read (Elt F) f14 = Y) :
    A14.view.read (Elt F) (A14.view.writes (Elt F) f14 [⟨Rect.unit (s := S1024x2048) (k0_off4 i) S256x2048.size (k0_off4_inb i h5 h7),
      k0_pay6 (A8.view.readAt (Elt F) (Rect.unit (s := S1x256x2048) ![0, 0, 0] S1x256x2048.size inb_S1x256x2048_S1x256x2048_0_0_0).toLoadRect f8)
        (A18.view.readAt (Elt F) (Rect.unit (s := S2048x2048) ![0, 0] S2048x2048.size inb_S2048x2048_S2048x2048_0_0).toLoadRect f18)
        (A16.view.readAt (Elt F) (Rect.unit (s := S1x2048) ![0, 0] S1x2048.size inb_S1x2048_S1x2048_0_0).toLoadRect f16)
        (A9.view.readAt (Elt F) (Rect.unit (s := S1x256x1) ![0, 0, 0] S1x256x1.size inb_S1x256x1_S1x256x1_0_0_0).toLoadRect f9)
        (A14.view.readAt (Elt F) (Rect.unit (s := S1024x2048) (k0_off4 i) S256x2048.size (k0_off4_inb i h5 h7)).toLoadRect f14)⟩])
      = outAfter i X s Y := by
  rw [outAfter, dif_pos h5, if_neg h6, dif_pos h7, View.read_writes_cons_put _ _ _ _ _ rfl, View.writes_nil, View.readAt_full,
    View.readAt_full, View.readAt_full, View.readAt_full, View.readAt_unit _ _ _ rfl (k0_off4_inb i h5 h7), g8, g18, g16, g9, g14]

end Pure

set_option maxHeartbeats 1600000 in
/-- The body at one point: the input blocks come back, the output's staging buffer and the scratch buffers hold
    what the state functions say. -/
theorem body_runs (c : Dev nD) (i : grid0.Coords) (X : Blocks F) (s : Scratch F) (Y : S1024x2048.Idx → Elt F .f32)
    (arg3 : Memref sig .tc .vmem S1024x2048 .bf16) (harg3 : arg3.IsWhole)
    (arg4 : Memref sig .tc .vmem S1x512x1024 .f32) (harg4 : arg4.IsWhole)
    (arg5 : Memref sig .tc .vmem S1x512x1 .f32) (harg5 : arg5.IsWhole)
    (arg6 : Memref sig .tc .vmem S1x512x2048 .f32) (harg6 : arg6.IsWhole)
    (arg7 : Memref sig .tc .vmem S1x512x1 .f32) (harg7 : arg7.IsWhole)
    (arg8 : Memref sig .tc .vmem S1x256x2048 .f32) (harg8 : arg8.IsWhole)
    (arg9 : Memref sig .tc .vmem S1x256x1 .f32) (harg9 : arg9.IsWhole)
    (arg10 : Memref sig .tc .vmem S64x1024 .f32) (harg10 : arg10.IsWhole)
    (arg11 : Memref sig .tc .vmem S64x1 .f32) (harg11 : arg11.IsWhole)
    (arg12 : Memref sig .tc .vmem S8x64 .f32) (harg12 : arg12.IsWhole)
    (arg13 : Memref sig .tc .vmem S8x1 .f32) (harg13 : arg13.IsWhole)
    (arg14 : Memref sig .tc .vmem S1024x2048 .f32) (harg14 : arg14.IsWhole)
    (arg15 : Memref sig .tc .vmem S8x2048 .f32) (harg15 : arg15.IsWhole)
    (arg16 : Memref sig .tc .vmem S1x2048 .f32) (harg16 : arg16.IsWhole)
    (arg17 : Memref sig .tc .vmem S2048x2048 .bf16) (harg17 : arg17.IsWhole)
    (arg18 : Memref sig .tc .vmem S2048x2048 .bf16) (harg18 : arg18.IsWhole)
    (Q : PUnit → sProp 𝕄) :
    iprop((holds c arg3 X.x ∗ holds c arg4 X.w1 ∗ holds c arg5 X.b1 ∗ holds c arg6 X.w2
        ∗ holds c arg7 X.b2 ∗ holds c arg8 X.w3 ∗ holds c arg9 X.b3 ∗ holds c arg10 X.wg1
        ∗ holds c arg11 X.bg1 ∗ holds c arg12 X.wg2 ∗ holds c arg13 X.bg2 ∗ holds c arg14 Y
        ∗ holds c arg15 s.gates ∗ holds c arg16 s.row ∗ holds c arg17 s.h1 ∗ holds c arg18 s.h2)
      ∗ ((holds c arg3 X.x ∗ holds c arg4 X.w1 ∗ holds c arg5 X.b1 ∗ holds c arg6 X.w2
        ∗ holds c arg7 X.b2 ∗ holds c arg8 X.w3 ∗ holds c arg9 X.b3 ∗ holds c arg10 X.wg1
        ∗ holds c arg11 X.bg1 ∗ holds c arg12 X.wg2 ∗ holds c arg13 X.bg2 ∗ holds c arg14 (outAfter i X s Y)
        ∗ holds c arg15 (gatesAfter i X s) ∗ holds c arg16 (rowAfter i X s) ∗ holds c arg17 (h1After i X s) ∗ holds c arg18 (h2After i X s))
        -∗ Q ⟨⟩))
      ⊢ wp frame (wpE (defs₀ (F := F)) Variants.none (c : Thread nD τ) none) Set.univ
          (cc0__moe_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by

  unfold holds owns
  iintro ⟨⟨⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, ⟨%f16, %g16, H16⟩, ⟨%f17, %g17, H17⟩, ⟨%f18, %g18, H18⟩⟩, Hk⟩
  simp only [Gen.cc0__moe_body_eq_skeleton]; unfold Gen.cc0__moe_body_skel
  rcases kinds i with ⟨hA, hB, h3, h4, h5⟩ | ⟨hA, hB, h3, h4, h5⟩ | ⟨hA, hB, h3, h4, h5⟩ | ⟨hA, hB, h3, h4, h5⟩ | ⟨hA, hB, h3, h4, h5⟩
  rotate_left 4
  · rcases firstOrLater i with ⟨h6, h7⟩ | ⟨h6, h7⟩
    all_goals
      sl_exec (disch := first | sl_exact hA | sl_exact hB | sl_exact h3 | sl_exact h4 | sl_exact h5 | sl_exact h6 | sl_exact h7)
      sl_step
      iapply Hk
      isplitl [H3]; · (iexists _; isplitr; swap; (· iexact H3); ipureintro; exact g3)
      isplitl [H4]; · (iexists _; isplitr; swap; (· iexact H4); ipureintro; exact g4)
      isplitl [H5]; · (iexists _; isplitr; swap; (· iexact H5); ipureintro; exact g5)
      isplitl [H6]; · (iexists _; isplitr; swap; (· iexact H6); ipureintro; exact g6)
      isplitl [H7]; · (iexists _; isplitr; swap; (· iexact H7); ipureintro; exact g7)
      isplitl [H8]; · (iexists _; isplitr; swap; (· iexact H8); ipureintro; exact g8)
      isplitl [H9]; · (iexists _; isplitr; swap; (· iexact H9); ipureintro; exact g9)
      isplitl [H10]; · (iexists _; isplitr; swap; (· iexact H10); ipureintro; exact g10)
      isplitl [H11]; · (iexists _; isplitr; swap; (· iexact H11); ipureintro; exact g11)
      isplitl [H12]; · (iexists _; isplitr; swap; (· iexact H12); ipureintro; exact g12)
      isplitl [H13]; · (iexists _; isplitr; swap; (· iexact H13); ipureintro; exact g13)
      isplitl [H14]; · (iexists _; isplitr; swap; (· iexact H14); ipureintro; first | exact (out_first h5 h6 g8 g18 g16 g9 g14) | exact (out_later h5 h6 h7 g8 g18 g16 g9 g14))
      isplitl [H15]; · (iexists _; isplitr; swap; (· iexact H15); ipureintro; exact (gates_kept hA g15))
      isplitl [H16]; · (iexists _; isplitr; swap; (· iexact H16); ipureintro; exact (row_kept hB g16))
      isplitl [H17]; · (iexists _; isplitr; swap; (· iexact H17); ipureintro; exact (h1_kept h3 g17))
      iexists _; isplitr; swap; (· iexact H18); ipureintro; exact (h2_kept h4 g18)
  all_goals
    sl_exec (disch := first | sl_exact hA | sl_exact hB | sl_exact h3 | sl_exact h4 | sl_exact h5)
    sl_step
    iapply Hk
    isplitl [H3]; · (iexists _; isplitr; swap; (· iexact H3); ipureintro; exact g3)
    isplitl [H4]; · (iexists _; isplitr; swap; (· iexact H4); ipureintro; exact g4)
    isplitl [H5]; · (iexists _; isplitr; swap; (· iexact H5); ipureintro; exact g5)
    isplitl [H6]; · (iexists _; isplitr; swap; (· iexact H6); ipureintro; exact g6)
    isplitl [H7]; · (iexists _; isplitr; swap; (· iexact H7); ipureintro; exact g7)
    isplitl [H8]; · (iexists _; isplitr; swap; (· iexact H8); ipureintro; exact g8)
    isplitl [H9]; · (iexists _; isplitr; swap; (· iexact H9); ipureintro; exact g9)
    isplitl [H10]; · (iexists _; isplitr; swap; (· iexact H10); ipureintro; exact g10)
    isplitl [H11]; · (iexists _; isplitr; swap; (· iexact H11); ipureintro; exact g11)
    isplitl [H12]; · (iexists _; isplitr; swap; (· iexact H12); ipureintro; exact g12)
    isplitl [H13]; · (iexists _; isplitr; swap; (· iexact H13); ipureintro; exact g13)
    isplitl [H14]; · (iexists _; isplitr; swap; (· iexact H14); ipureintro; exact (out_kept h5 g14))
    isplitl [H15]; · (iexists _; isplitr; swap; (· iexact H15); ipureintro; first | exact (gates_kept hA g15) | exact (gates_new hA g10 g3 g11 g12 g13))
    isplitl [H16]; · (iexists _; isplitr; swap; (· iexact H16); ipureintro; first | exact (row_kept hB g16) | exact (row_new hB (gates_load hA g15)) | exact (row_new hB (by unfold body_runs.sl.v22; exact (gates_back hA g10 g3 g11 g12 g13))))
    isplitl [H17]; · (iexists _; isplitr; swap; (· iexact H17); ipureintro; first | exact (h1_kept h3 g17) | exact (h1_new h3 g4 g3 g5 g17))
    iexists _; isplitr; swap; (· iexact H18); ipureintro; first | exact (h2_kept h4 g18) | exact (h2_new h4 g6 g17 g7 g16 g18)

end Cert.MoE

end
-- ==== Proof.RunTail.lean ====
/- A run of @main whose one region is followed by host lines, for a region whose output window is known
   by a relation: what every buffer holds at the end is what the host lines compute from SOME array
   contents the relation allows. -/
module

public import Idealize.ShloMosaic.Lib.Pipeline.FrameSuffix

@[expose] public section

noncomputable section

namespace Cert.RunTail

open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
variable {Λ₀ : Labels} {P : Type} [Fintype P] [DecidableEq P]
variable (cfgs : P → Cfg sig Λ₀) (p : P)

/-- What the memory holds after the host lines `opss` that follow the region: there are array contents
    the proof data allow after every write-back, and every buffer that is no window's array holds what the lines compute
    from those contents (and from the region-entry contents `V₀` elsewhere); the arrays themselves hold contents
    the proof data allow, and every counter reads zero. -/
def ExitPost (rdat : (c : Dev nD) → RDat τ Val Unit ℕ (UR sig nD τ) ℕ (cfgs p) c)
    (V₀ : Dev nD → Valuation τ sig Val) (opss : List (List (HloOp τ sig Val))) (r : PUnit × MemSt nD τ sig Val) : Prop :=
  (∀ c : Dev nD,
    (∀ w, (rdat c).ArrAt w (cfgs p).N (r.2.mem (((cfgs p).spec w).arr.view.loc (c.tc : Thread nD τ))))
    ∧ ∃ A : (w : Fin (cfgs p).W) → Buf Val (((cfgs p).win w).arr.view.loc (c.tc : Thread nD τ)),
        (∀ w, (rdat c).ArrAt w (cfgs p).N (A w))
        ∧ ∀ b ∈ restRefs sig (cfgs p).spec,
            r.2.mem ((c.tc : Thread nD τ).loc b)
              = StableHlo.after opss.flatten (withArrays (cfgs p).spec c (V₀ c) A) (Proc.devRef .tc b))
  ∧ r.2.sem = (fun _ => 0)

local notation "𝕄" => MT nD τ sig Unit Val ℕ (UR sig nD τ) ℕ

omit [Fintype P] [DecidableEq P] in
/-- With no table prefetched, nothing is set aside for one: the two lists of bypassing buffers agree. -/
theorem restRefsP_none {gr W : Nat} (win : Fin W → WinSpec sig gr) :
    restRefsP sig (Prefetch.none (sig := sig)) win = restRefs sig win := by
  ext b
  simp only [Finset.mem_sdiff, Finset.mem_image]
  exact ⟨fun h => h.1, fun h => ⟨h, fun ⟨k, _⟩ => k.elim0⟩⟩

/-- THE RUN: from a proof of the body over the relational data, @main (host lines, the region, the lines `opss`)
    ends in `ExitPost`. -/
theorem run (kit : LaunchFacts (nD := nD) (τ := τ) cfgs p) (defs₀ : Defs nD τ sig Val Λ₀) (𝒱₀ : Variants)
    (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hq : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0)
    (hout : ∀ c, (rdat c).Φ (Fin.last (cfgs p).N) ⊢ ΦA (cfgs p).spec c) :
    θ_run (Pipeline.defs (fun q => Cfg.toPCfg (Val := Val) (cfgs q)) defs₀) (onTc main) ⟨m, fun _ => 0, g⟩
      (ExitPost cfgs p rdat V₀ opss) := by
  classical
  let pcs := fun q => (cfgs q).toPCfg (Val := Val)
  let a : (q : P) → (pcs q).Adm := fun q => (cfgs q).toPCfg_adm
  have pk : PLaunchFacts (nD := nD) (τ := τ) pcs p := kit.toP
  let spec := (cfgs p).spec
  let V : (c : Dev nD) → (b : Ref sig .tc) → Buf Val ((c.tc : Thread nD τ).loc b) := fun c b => V₀ c (Proc.devRef .tc b)
  let ends : (c : Dev nD) → ((w : Fin (cfgs p).W) → Buf Val (((cfgs p).win w).arr.view.loc (c.tc : Thread nD τ)))
      → (b : Ref sig .tc) → Buf Val ((c.tc : Thread nD τ).loc b) :=
    fun c A b => StableHlo.after opss.flatten (withArrays spec c (V₀ c) A) (Proc.devRef .tc b)
  have hfam : ∀ c, RDat.familyOf pcs a p rdat p c = rdat c := fun c => RDat.familyOf_self pcs a p rdat c
  have hshare : ∀ c w, (spec w).isOut = false → (rdat c).q w = shareOf spec w := fun c =>
    (rdat c).q_eq_shareOf_of_share_full kit.win.arr_inj (hq c)
  -- the arrays as the lines hold them, buffer by buffer
  have hbufs : ∀ c A, ((rdat c).arrays A : sProp 𝕄)
      = arrBufs spec c (fun b => withArrays spec c (V₀ c) A (Proc.devRef .tc b)) := fun c A =>
    ((rdat c).arrBufs_eq_arrays kit.to₀.sharedIn kit.arr_whole (hshare c) _ A fun w =>
      (withArrays_arr spec kit.win.arr_inj c (V₀ c) A w).symm).symm
  -- "some allowed contents of each array" is "allowed contents of all arrays", both ways
  have hopen : ∀ c, ((rdat c).arraysAt (cfgs p).N : sProp 𝕄)
      ⊢ iprop(∃ A, ⌜∀ w, (rdat c).ArrAt w (cfgs p).N (A w)⌝ ∗ (rdat c).arrays A) := fun c => by
    unfold RDat.arraysAt
    iintro H
    ihave H := (BI.bigSep_exists_pi Finset.univ (fun w F => iprop(⌜(rdat c).ArrAt w (cfgs p).N F⌝
      ∗ ((cfgs p).win w).arr.view.loc (c.tc : Thread nD τ) ↦[((cfgs p).win w).arr.view.set]{(rdat c).share w} F))) $$ H
    icases H with ⟨%A, H⟩
    ihave H := (BI.bigSep_pure_sep Finset.univ (fun w => (rdat c).ArrAt w (cfgs p).N (A w))
      (fun w => ((cfgs p).win w).arr.view.loc (c.tc : Thread nD τ) ↦[((cfgs p).win w).arr.view.set]{(rdat c).share w} A w)) $$ H
    icases H with ⟨%hall, H⟩
    iexists A
    isplitr
    · ipureintro; exact fun w => hall w (Finset.mem_univ w)
    · unfold RDat.arrays; iexact H
  have hclose : ∀ c A, (∀ w, (rdat c).ArrAt w (cfgs p).N (A w)) →
      ((rdat c).arrays A : sProp 𝕄) ⊢ (rdat c).arraysAt (cfgs p).N := fun c A hall => by
    unfold RDat.arraysAt RDat.arrays
    refine BI.bigSep_mono fun w _ => ?_
    show (((cfgs p).win w).arr.view.loc (c.tc : Thread nD τ) ↦[((cfgs p).win w).arr.view.set]{(rdat c).share w} A w : sProp 𝕄)
      ⊢ iprop(∃ F, ⌜(rdat c).ArrAt w (cfgs p).N F⌝
        ∗ ((cfgs p).win w).arr.view.loc (c.tc : Thread nD τ) ↦[((cfgs p).win w).arr.view.set]{(rdat c).share w} F)
    iintro H
    iexists (A w)
    isplitr
    · ipureintro; exact hall w
    · iexact H
  refine RDat.θ_run_region_pf_tail_quiescent pcs a (RDat.familyOf pcs a p rdat) () (pk.to₀.cellOf_inj a) p pk.to₀.win
    (OwnSemFacts.none spec) pk.to₀.pre emb₁ defs₀ 𝒱₀ m g main (fun _ => chain (opss.map StableHlo.seq))
    (fun c => by rw [hfam c]; exact hbody c) kit.block_pos kit.arr_whole kit.stage_whole
    (fun c t => by rw [hfam c]; exact howed c t)
    (G := fun _ => iprop(emp))
    (u₀ := initOf (cells (pin pcs a) (pk.to₀.cellOf_inj a)) (launchToks (pin pcs a) (pk.to₀.cellOf_inj a)))
    (hu₀ := ?_) (V := V) (hmain := hmain)
    (hsplit := fun c => by rw [hfam c]; exact (rdat c).arrays_split_shared kit.to₀.sharedIn kit.arr_whole (hshare c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec c (V c))
    (Z' := fun c => iprop(∃ A, ⌜∀ w, (rdat c).ArrAt w (cfgs p).N (A w)⌝
      ∗ unscopedRestP (Ix := Unit) (Name := ℕ) (U := UR sig nD τ) (Lvl := ℕ) Prefetch.none spec c (ends c A)))
    (hX := ?_) (hin := ?_) (hout := ?_) (htail := ?_)
    (QY := fun c s => ∃ A : (w : Fin (cfgs p).W) → Buf Val (((cfgs p).win w).arr.view.loc (c.tc : Thread nD τ)),
      (∀ w, (rdat c).ArrAt w (cfgs p).N (A w)) ∧ ∀ b ∈ restRefs sig spec, s.mem ((c.tc : Thread nD τ).loc b) = ends c A b)
    (hY := ?_) (hQ := ?_)
  · -- the launch's tokens
    iintro H; imodintro
    isplitl [H]
    · iapply (show (ownU _ : sProp 𝕄) ⊢ BI.own (emb₁ (initOf (cells (pin pcs a) (pk.to₀.cellOf_inj a)) (launchToks (pin pcs a) (pk.to₀.cellOf_inj a)))) from .rfl)
      iexact H
    · iapply (show (BI.emp : sProp 𝕄) ⊢ bigSep Finset.univ (fun _ : Dev nD => (BI.emp : sProp 𝕄)) from by rw [BI.bigSep_emp_const])
      iempintro
  · intro c
    iintro ⟨HU, -, -, Hp, -⟩; imodintro
    isplitl [Hp]
    · iexists _; iexact Hp
    · iexact HU
  · intro c
    rw [hfam c]
    refine .trans ?_ (hin c)
    unfold ΦA
    iintro ⟨Hp, -, Hr⟩
    isplitl [Hr] <;> iassumption
  · intro c
    rw [hfam c]
    refine (hout c).trans ?_
    rw [ownSems0_none]; unfold ΦA
    iintro ⟨Hr, Hp⟩
    isplitl [Hp]; · iexact Hp
    isplitr; · iempintro
    iexact Hr
  · intro c Q'
    rw [hfam c]
    iintro ⟨Hk, Hb, Ha, HZ⟩
    ihave Ha := (hopen c) $$ Ha
    icases Ha with ⟨%A, %hall, Ha⟩
    iapply (tail_seqs_bufs_b pcs defs₀ 𝒱₀ Prefetch.none spec c (V₀ c) A opss hsub hfresh hkeep Q')
    isplitl [Hk]
    · iintro ⟨Hb, Ha, Hu⟩
      iapply Hk
      isplitl [Hb]; · iexact Hb
      isplitl [Ha]
      · iapply (hclose c A hall); iapply (Entails.of_eq (hbufs c A).symm); iexact Ha
      · iexists A
        isplitr
        · ipureintro; exact hall
        · iexact Hu
    · isplitl [Hb]; · iexact Hb
      isplitl [Ha]
      · iapply (Entails.of_eq (hbufs c A)); iexact Ha
      · iexact HZ
  · intro c s'
    iintro ⟨-, HZ, HSI⟩
    icases HZ with ⟨%A, %hall, HZ⟩
    unfold unscopedRestP
    ihave HZ := (pointsTo_read_all (restRefsP sig Prefetch.none spec) (fun b => (c.tc : Thread nD τ).loc b) (ends c A) s') $$ [HZ HSI]
    · isplitl [HZ] <;> iassumption
    icases HZ with ⟨%hZ, HSI⟩
    imodintro
    isplitr
    · ipureintro
      exact ⟨A, hall, fun b hb => hZ b ((restRefsP_none spec).symm ▸ hb)⟩
    · iexact HSI
  · intro s h hz
    refine ⟨fun c => ⟨fun w => ?_, (h c).2.2⟩, hz⟩
    have hw := (h c).1 w
    rw [hfam c] at hw
    exact hw

end Cert.RunTail

end
-- ==== Proof.Data.lean ====
/- The proof data of the kernel's one region: the sequence of scratch contents point by point, what the body leaves in
   each window's buffer, the proof of the body against it, and the run of the whole kernel. -/
module

public import proofs.«01_k».proof.Proof.Body
public import proofs.«01_k».proof.Proof.RunTail

@[expose] public section

noncomputable section

namespace Cert.MoE

open Cert.KernelIdeal Cert.KernelIdeal.Gen
open Idealize.ShloMosaic Idealize.ShloMosaic.TcCoe Idealize.ShloMosaic.Tactic
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The input blocks the pipeline hands the body at point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t⟩

/-- The scratch buffers before point `k`, if they hold `s` when the region is entered. -/
def scr (c : Dev nD) (s : Scratch F) : ℕ → Scratch F
  | 0 => s
  | k + 1 => if h : k < cfg0.N then scratchAfter (grid0.coords ⟨k, h⟩) (blocks m c ⟨k, h⟩) (scr c s k) else scr c s k

/-- One step of the scratch buffers' sequence. -/
theorem scr_succ (c : Dev nD) (s : Scratch F) (t : Fin cfg0.N) :
    scr m c s (t.val + 1) = scratchAfter (grid0.coords t) (blocks m c t) (scr m c s t.val) := by
  rw [scr, dif_pos t.isLt]

/-- What the body may leave in a window's buffer: an input block as found, the output's as the point computes it
    from some scratch contents the sequence allows. -/
def left (c : Dev nD) (w : Fin cfg0.W) (t : Fin cfg0.N) (Y X : (cfg0.win w).block.Idx → Elt F (cfg0.win w).elt) : Prop :=
  match w, Y, X with
  | ⟨11, _⟩, Y, X => ∃ s : Scratch F, X = outAfter (grid0.coords t) (blocks m c t) (scr m c s t.val) Y
  | _, Y, X => X = Y

/-- The scratch buffers at some contents the sequence allows before point `k`, and the generator's register. -/
def inv (c : Dev nD) (k : ℕ) : sProp 𝕄 :=
  iprop(∃ s : Scratch F, holds c (Memref.whole cc0_scratch0) (scr m c s k).gates
    ∗ holds c (Memref.whole cc0_scratch1) (scr m c s k).row
    ∗ holds c (Memref.whole cc0_scratch2) (scr m c s k).h1
    ∗ holds c (Memref.whole cc0_scratch3) (scr m c s k).h2
    ∗ ∃ r, prngReg c r)

/-- The region's proof data. -/
def rdat (c : Dev nD) : RDat τ (Elt F) Unit ℕ (UR sig nD τ) ℕ cfg0 c where
  A w := V m c (Pipeline.arrRef spec0 w)
  after := left m c
  Φ k := inv m c k.val
  q _ := fullShare
  owed _ := 0

/-- An input window's buffer holds its block wherever the body is handed it. -/
theorem found_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, left m c w t Y X → X = Y) (t : Fin cfg0.N) (Y) (h : (rdat m c).Finds w t Y) :
    ∃ d, Y = (rdat m c).fetched w t d :=
  (rdat m c).finds_in_eq_fetched w hw hclip hkeep t Y h

/-- The table of bodies at the region's label is the kernel's body at the point. -/
theorem body_row (t : Fin cfg0.N) : defs₀ (F := F) .tc cfg0.body (cfg0.bodyArgs t (cfg0.slots t)) = Gen.bodyAt0 t := by
  unfold defs₀; rw [Defs.onTc_tc]

/-- The body meets the region's proof data at every point. -/
theorem obligation (c : Dev nD) : (rdat m c).BodyObligation (defs₀ (F := F)) Variants.none () Set.univ := by
  intro t Y hY
  have e0 : Y 0 = iblk m c 0 t := by
    obtain ⟨d, e⟩ := found_in m c 0 rfl (fun _ _ _ => rfl) (fun _ _ _ h => h) t _ (hY 0); exact e.trans rfl
  have e1 : Y 1 = iblk m c 1 t := by
    obtain ⟨d, e⟩ := found_in m c 1 rfl (fun _ _ _ => rfl) (fun _ _ _ h => h) t _ (hY 1); exact e.trans rfl
  have e2 : Y 2 = iblk m c 2 t := by
    obtain ⟨d, e⟩ := found_in m c 2 rfl (fun _ _ _ => rfl) (fun _ _ _ h => h) t _ (hY 2); exact e.trans rfl
  have e3 : Y 3 = iblk m c 3 t := by
    obtain ⟨d, e⟩ := found_in m c 3 rfl (fun _ _ _ => rfl) (fun _ _ _ h => h) t _ (hY 3); exact e.trans rfl
  have e4 : Y 4 = iblk m c 4 t := by
    obtain ⟨d, e⟩ := found_in m c 4 rfl (fun _ _ _ => rfl) (fun _ _ _ h => h) t _ (hY 4); exact e.trans rfl
  have e5 : Y 5 = iblk m c 5 t := by
    obtain ⟨d, e⟩ := found_in m c 5 rfl (fun _ _ _ => rfl) (fun _ _ _ h => h) t _ (hY 5); exact e.trans rfl
  have e6 : Y 6 = iblk m c 6 t := by
    obtain ⟨d, e⟩ := found_in m c 6 rfl (fun _ _ _ => rfl) (fun _ _ _ h => h) t _ (hY 6); exact e.trans rfl
  have e7 : Y 7 = iblk m c 7 t := by
    obtain ⟨d, e⟩ := found_in m c 7 rfl (fun _ _ _ => rfl) (fun _ _ _ h => h) t _ (hY 7); exact e.trans rfl
  have e8 : Y 8 = iblk m c 8 t := by
    obtain ⟨d, e⟩ := found_in m c 8 rfl (fun _ _ _ => rfl) (fun _ _ _ h => h) t _ (hY 8); exact e.trans rfl
  have e9 : Y 9 = iblk m c 9 t := by
    obtain ⟨d, e⟩ := found_in m c 9 rfl (fun _ _ _ => rfl) (fun _ _ _ h => h) t _ (hY 9); exact e.trans rfl
  have e10 : Y 10 = iblk m c 10 t := by
    obtain ⟨d, e⟩ := found_in m c 10 rfl (fun _ _ _ => rfl) (fun _ _ _ h => h) t _ (hY 10); exact e.trans rfl
  rw [Gen.bigSep_W0, Gen.bigSep_W0, body_row]
  unfold bodyAt0
  iintro ⟨HΦ, Hw, H0, H1, H2, H3, H4, H5, H6, H7, H8, H9, H10, H11⟩
  ihave HΦ := (show (rdat m c).Φ t.castSucc ⊢ inv m c t.val from .rfl) $$ HΦ
  unfold inv
  icases HΦ with ⟨%s, Hg, Hr, Hh1, Hh2, Hp⟩
  iapply (body_runs c (grid0.coords t) (blocks m c t) (scr m c s t.val) (Y 11) _ _ _ _ _ _ _ _ _ _ _ _ _ _ _ _ _ _ _ _ _ _ _ _ _ _ _ _ _ _ _ _ _)
  isplitl [H0 H1 H2 H3 H4 H5 H6 H7 H8 H9 H10 H11 Hg Hr Hh1 Hh2]
  · isplitl [H0]; · rw [e0]; iexact H0
    isplitl [H1]; · rw [e1]; iexact H1
    isplitl [H2]; · rw [e2]; iexact H2
    isplitl [H3]; · rw [e3]; iexact H3
    isplitl [H4]; · rw [e4]; iexact H4
    isplitl [H5]; · rw [e5]; iexact H5
    isplitl [H6]; · rw [e6]; iexact H6
    isplitl [H7]; · rw [e7]; iexact H7
    isplitl [H8]; · rw [e8]; iexact H8
    isplitl [H9]; · rw [e9]; iexact H9
    isplitl [H10]; · rw [e10]; iexact H10
    isplitl [H11]; · iexact H11
    isplitl [Hg]; · iexact Hg
    isplitl [Hr]; · iexact Hr
    isplitl [Hh1]; · iexact Hh1
    iexact Hh2
  iintro ⟨H0, H1, H2, H3, H4, H5, H6, H7, H8, H9, H10, H11, Hg, Hr, Hh1, Hh2⟩
  isplitl [Hg Hr Hh1 Hh2 Hp]
  · iapply (show inv m c (t.val + 1) ⊢ (rdat m c).Φ t.succ from .rfl)
    unfold inv
    iexists s
    rw [scr_succ]
    isplitl [Hg]; · iexact Hg
    isplitl [Hr]; · iexact Hr
    isplitl [Hh1]; · iexact Hh1
    isplitl [Hh2]; · iexact Hh2
    iexact Hp
  isplitl [Hw]; · iexact Hw
  isplitl [H0]
  · iexists (Y 0); isplitr; · ipureintro; exact rfl
    rw [e0]; iexact H0
  isplitl [H1]
  · iexists (Y 1); isplitr; · ipureintro; exact rfl
    rw [e1]; iexact H1
  isplitl [H2]
  · iexists (Y 2); isplitr; · ipureintro; exact rfl
    rw [e2]; iexact H2
  isplitl [H3]
  · iexists (Y 3); isplitr; · ipureintro; exact rfl
    rw [e3]; iexact H3
  isplitl [H4]
  · iexists (Y 4); isplitr; · ipureintro; exact rfl
    rw [e4]; iexact H4
  isplitl [H5]
  · iexists (Y 5); isplitr; · ipureintro; exact rfl
    rw [e5]; iexact H5
  isplitl [H6]
  · iexists (Y 6); isplitr; · ipureintro; exact rfl
    rw [e6]; iexact H6
  isplitl [H7]
  · iexists (Y 7); isplitr; · ipureintro; exact rfl
    rw [e7]; iexact H7
  isplitl [H8]
  · iexists (Y 8); isplitr; · ipureintro; exact rfl
    rw [e8]; iexact H8
  isplitl [H9]
  · iexists (Y 9); isplitr; · ipureintro; exact rfl
    rw [e9]; iexact H9
  isplitl [H10]
  · iexists (Y 10); isplitr; · ipureintro; exact rfl
    rw [e10]; iexact H10
  iexists (outAfter (grid0.coords t) (blocks m c t) (scr m c s t.val) (Y 11))
  isplitr
  · ipureintro; exact ⟨s, rfl⟩
  iexact H11

/-- The region is entered with the scratch buffers at some contents. -/
theorem enter (c : Dev nD) : (Pipeline.ΦA spec0 c : sProp 𝕄) ⊢ (rdat m c).Φ 0 := by
  refine BIBase.Entails.trans ?_ (show inv m c 0 ⊢ (rdat m c).Φ 0 from .rfl)
  unfold Pipeline.ΦA inv holds
  rw [scopedRest0_eq]
  simp only [owns_whole]
  iintro ⟨⟨⟨%g, Hg⟩, ⟨%r, Hr⟩, ⟨%h1, Hh1⟩, ⟨%h2, Hh2⟩⟩, Hp⟩
  iexists (⟨g, r, h1, h2⟩ : Scratch F)
  isplitl [Hg]; · iexact Hg
  isplitl [Hr]; · iexact Hr
  isplitl [Hh1]; · iexact Hh1
  isplitl [Hh2]; · iexact Hh2
  iexact Hp

/-- It gives them back at some contents. -/
theorem leave (c : Dev nD) : (rdat m c).Φ (Fin.last cfg0.N) ⊢ (Pipeline.ΦA spec0 c : sProp 𝕄) := by
  refine BIBase.Entails.trans (show (rdat m c).Φ (Fin.last cfg0.N) ⊢ inv m c cfg0.N from .rfl) ?_
  unfold Pipeline.ΦA inv holds
  rw [scopedRest0_eq]
  simp only [owns_whole]
  iintro ⟨%s, Hg, Hr, Hh1, Hh2, Hp⟩
  isplitl [Hg Hr Hh1 Hh2]
  · isplitl [Hg]; · iexists _; iexact Hg
    isplitl [Hr]; · iexists _; iexact Hr
    isplitl [Hh1]; · iexists _; iexact Hh1
    iexists _; iexact Hh2
  iexact Hp

/-- THE RUN: the kernel ends with its arrays as the proof data allow, its other buffers as the last host line leaves
    them, and every counter at zero. -/
theorem runs (g : Dev nD → PrngReg) :
    θ_run (defs (F := F)) (onTc (τ := τ) (main (F := F))) ⟨m, fun _ => 0, g⟩
      (RunTail.ExitPost cfgs 0 (rdat m) (V0 m) [hostOps1]) :=
  RunTail.run cfgs 0 Gen.launch0 (defs₀ (F := F)) Variants.none (rdat m) m g main (obligation m)
    (fun c w => by unfold RDat.share; split <;> rfl) (fun _ _ => rfl) (V0 m) [hostOps1] Gen.sfx_sub Gen.sfx_fresh Gen.sfx_keeps
    (Gen.hmain m Variants.none) (fun _ _ => rfl) (enter m) (leave m)

end Cert.MoE

end
-- ==== Proof.Exit.lean ====
/- What the kernel's run ends with: its arguments as launched, every counter at zero, and its result the transpose
   of some array the proof data allow for the output window. -/
module

public import proofs.«01_k».proof.Proof.Data

@[expose] public section

noncomputable section

namespace Cert.MoE

open Cert.KernelIdeal Cert.KernelIdeal.Gen
open Idealize.ShloMosaic Idealize.ShloMosaic.TcCoe Idealize.ShloMosaic.Tactic
open Idealize.ShloMosaic.Pipeline (RDat)
open Idealize.SL.Sem
open Idealize.ShloMosaic.Rounds

variable {F : FTy → Type} [FloatOps F]

variable (m : (ℓ : Loc nD τ sig) → Buf (Elt F) ℓ)

/-- A buffer that is no window's array and that the last host line does not write ends as the region found it. -/
theorem rest_kept (c : Dev nD) (b : Ref sig .tc) (A : (w : Fin cfg0.W) → Buf (Elt F) ((cfg0.win w).arr.view.loc (c.tc : Thread nD τ)))
    (hb : b ≠ main_v0) (hw : ∀ w, Pipeline.arrRef spec0 w ≠ b) :
    StableHlo.after ([hostOps1 (F := F)].flatten) (Pipeline.withArrays spec0 c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.TRef.unary,
        StableHlo.unary_writes, Finset.mem_singleton]
      exact StableHlo.devRef_ne_of_ne hb)), Pipeline.withArrays_of_ne _ c (V0 m c) _ b hw]

/-- The result is the transpose of the output window's array. -/
theorem result_read (c : Dev nD) (A : (w : Fin cfg0.W) → Buf (Elt F) ((cfg0.win w).arr.view.loc (c.tc : Thread nD τ))) :
    StableHlo.after ([hostOps1 (F := F)].flatten) (Pipeline.withArrays spec0 c (V0 m c) A) (Proc.devRef .tc main_v0)
      = transpose S2048x1024 [1, 0] (A 11) transposes_S1024x2048_S2048x1024_1_0 := by
  have e : Pipeline.withArrays spec0 c (V0 m c) A (Proc.devRef .tc main_call0_v7) = A 11 :=
    Pipeline.withArrays_arr spec0 Gen.launch0.win.arr_inj c (V0 m c) A 11
  simp only [hostOps1, List.flatten_cons, List.flatten_nil, List.append_nil, StableHlo.after_cons, StableHlo.after_nil]
  rw [← e]
  rfl

/-- The arguments of a memory at the end are those of a memory at the start. -/
def ArgsKept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

/-- The run's end, read at the arguments, the result and the counters. -/
theorem ends (g : Dev nD → PrngReg) :
    θ_run (defs (F := F)) (onTc (τ := τ) (main (F := F))) ⟨m, fun _ => 0, g⟩ (fun r =>
      (∀ c : Dev nD, (∃ A, (rdat m c).ArrAt 11 cfg0.N A
          ∧ r.2.mem ((c.tc : Thread nD τ).loc main_v0) = transpose S2048x1024 [1, 0] A transposes_S1024x2048_S2048x1024_1_0)
        ∧ ArgsKept m r.2.mem c) ∧ r.2.sem = fun _ => 0) := by
  refine (θ_run (defs (F := F)) _ _).mono (fun r h => ⟨fun c => ?_, h.2⟩) (runs m g)
  obtain ⟨hw, A, hA, hb⟩ := h.1 c
  have rest : ∀ b ∈ Pipeline.restRefs sig spec0, b ≠ main_v0 → (∀ w, Pipeline.arrRef spec0 w ≠ b) →
      r.2.mem ((c.tc : Thread nD τ).loc b) = V m c b := fun b h1 h2 h3 => (hb b h1).trans (rest_kept m c b A h2 h3)
  have arr : ∀ w : Fin cfg0.W, (cfg0.win w).isOut = false →
      r.2.mem ((cfg0.spec w).arr.view.loc (c.tc : Thread nD τ)) = V m c (Pipeline.arrRef spec0 w) := fun w h1 => by
    have := hw w
    rw [RDat.ArrAt_in _ w h1] at this
    exact this
  refine ⟨⟨A 11, hA 11, (hb main_v0 (Pipeline.mem_restRefs_of main_v0 (by decide) (by decide))).trans (result_read m c A)⟩, ?_⟩
  exact ⟨(rest main_arg0 (Pipeline.mem_restRefs_of main_arg0 (by decide) (by decide)) (by decide) (by decide)).trans (V_main_arg0 m c),
    (arr 1 rfl).trans (V_main_arg1 m c),
    (rest main_arg2 (Pipeline.mem_restRefs_of main_arg2 (by decide) (by decide)) (by decide) (by decide)).trans (V_main_arg2 m c),
    (arr 3 rfl).trans (V_main_arg3 m c),
    (rest main_arg4 (Pipeline.mem_restRefs_of main_arg4 (by decide) (by decide)) (by decide) (by decide)).trans (V_main_arg4 m c),
    (arr 5 rfl).trans (V_main_arg5 m c),
    (rest main_arg6 (Pipeline.mem_restRefs_of main_arg6 (by decide) (by decide)) (by decide) (by decide)).trans (V_main_arg6 m c),
    (arr 7 rfl).trans (V_main_arg7 m c),
    (rest main_arg8 (Pipeline.mem_restRefs_of main_arg8 (by decide) (by decide)) (by decide) (by decide)).trans (V_main_arg8 m c),
    (arr 9 rfl).trans (V_main_arg9 m c),
    (rest main_arg10 (Pipeline.mem_restRefs_of main_arg10 (by decide) (by decide)) (by decide) (by decide)).trans (V_main_arg10 m c)⟩

/-- The frame: the arguments end as launched and every counter at zero. -/
theorem frame (g : Dev nD → PrngReg) :
    θ_run (defs (F := F)) (onTc (τ := τ) (main (F := F))) ⟨m, fun _ => 0, g⟩ (fun r =>
      (∀ c : Dev nD, ArgsKept m r.2.mem c) ∧ r.2.sem = fun _ => 0) :=
  (θ_run (defs (F := F)) _ _).mono (fun _ h => ⟨fun c => (h.1 c).2, h.2⟩) (ends m g)

end Cert.MoE

end
-- ==== Proof.Math.lean ====
/- The mathematics of the mixture of experts at one token and one output, on the extended reals: the layers, the gate,
   the kernel's accumulated sum and the reference's sum, and their equality when the gating network's inputs are
   finite. -/
module

public import Idealize.ShloMosaic.Lib.Pointwise

@[expose] public section

noncomputable section

namespace Cert.MoE

open Idealize.ShloMosaic

/-- The argument arrays, by their indices: the tokens, the eight experts' three layers, the gating network's two. -/
structure Args where
  x : Fin 2048 → Fin 1024 → EReal
  w1 : Fin 8 → Fin 2048 → Fin 1024 → EReal
  b1 : Fin 8 → Fin 2048 → EReal
  w2 : Fin 8 → Fin 2048 → Fin 2048 → EReal
  b2 : Fin 8 → Fin 2048 → EReal
  w3 : Fin 8 → Fin 1024 → Fin 2048 → EReal
  b3 : Fin 8 → Fin 1024 → EReal
  wg1 : Fin 64 → Fin 1024 → EReal
  bg1 : Fin 64 → EReal
  wg2 : Fin 8 → Fin 64 → EReal
  bg2 : Fin 8 → EReal

namespace Args

variable (a : Args)

/-- The gating network's hidden unit `g` at token `t`. -/
def hidden (g : Fin 64) (t : Fin 2048) : EReal := max (∑ d, a.wg1 g d * a.x t d + a.bg1 g) 0

/-- Expert `e`'s logit at token `t`. -/
def logit (e : Fin 8) (t : Fin 2048) : EReal := ∑ g, a.wg2 e g * a.hidden g t + a.bg2 e

/-- The largest logit at token `t`. -/
def top (t : Fin 2048) : EReal := Finset.fold max (Ideal.ofBits FTy.f32 4286578688#32) (fun e => a.logit e t) Finset.univ

/-- Expert `e`'s gate at token `t`: the softmax of the logits. -/
def gate (e : Fin 8) (t : Fin 2048) : EReal :=
  Ideal.div (Ideal.exp (a.logit e t - a.top t)) (∑ e', Ideal.exp (a.logit e' t - a.top t))

/-- Expert `e`'s first hidden unit `h` at token `t`. -/
def h1 (e : Fin 8) (h t : Fin 2048) : EReal := max (∑ d, a.w1 e h d * a.x t d + a.b1 e h) 0

/-- Expert `e`'s second hidden unit `h` at token `t`. -/
def h2 (e : Fin 8) (h t : Fin 2048) : EReal := max (∑ k, a.w2 e h k * a.h1 e k t + a.b2 e h) 0

/-- Expert `e`'s contribution to output `o` at token `t`, as the kernel computes it: the gate multiplied into the
    second hidden layer and into the bias. -/
def term (e : Fin 8) (o : Fin 1024) (t : Fin 2048) : EReal :=
  ∑ k, a.w3 e o k * (a.h2 e k t * a.gate e t) + a.gate e t * a.b3 e o

/-- What the kernel has accumulated of output `o` at token `t` after the experts below `n + 1`. -/
def acc (o : Fin 1024) (t : Fin 2048) : ℕ → EReal
  | 0 => a.term 0 o t
  | n + 1 => if h : n + 1 < 8 then acc o t n + a.term ⟨n + 1, h⟩ o t else acc o t n

/-- The mixture's output `o` at token `t`, as the reference computes it. -/
def out (o : Fin 1024) (t : Fin 2048) : EReal := ∑ e, (∑ k, a.h2 e k t * a.w3 e o k + a.b3 e o) * a.gate e t

/-- The gating network's inputs are real numbers. -/
structure GatingReal : Prop where
  x : ∀ t d, ∃ r : ℝ, a.x t d = r
  wg1 : ∀ g d, ∃ r : ℝ, a.wg1 g d = r
  bg1 : ∀ g, ∃ r : ℝ, a.bg1 g = r
  wg2 : ∀ e g, ∃ r : ℝ, a.wg2 e g = r
  bg2 : ∀ e, ∃ r : ℝ, a.bg2 e = r

end Args

/-- A product of two real numbers is real. -/
theorem real_mul {x y : EReal} (hx : ∃ r : ℝ, x = r) (hy : ∃ r : ℝ, y = r) : ∃ r : ℝ, x * y = r := by
  obtain ⟨p, rfl⟩ := hx; obtain ⟨q, rfl⟩ := hy; exact ⟨p * q, (EReal.coe_mul p q).symm⟩

/-- A sum of two real numbers is real. -/
theorem real_add {x y : EReal} (hx : ∃ r : ℝ, x = r) (hy : ∃ r : ℝ, y = r) : ∃ r : ℝ, x + y = r := by
  obtain ⟨p, rfl⟩ := hx; obtain ⟨q, rfl⟩ := hy; exact ⟨p + q, (EReal.coe_add p q).symm⟩

/-- A difference of two real numbers is real. -/
theorem real_sub {x y : EReal} (hx : ∃ r : ℝ, x = r) (hy : ∃ r : ℝ, y = r) : ∃ r : ℝ, x - y = r := by
  obtain ⟨p, rfl⟩ := hx; obtain ⟨q, rfl⟩ := hy; exact ⟨p - q, (EReal.coe_sub p q).symm⟩

/-- The larger of a real number and zero is real. -/
theorem real_relu {x : EReal} (hx : ∃ r : ℝ, x = r) : ∃ r : ℝ, max x 0 = r := by
  rcases max_choice x 0 with h | h
  · rw [h]; exact hx
  · exact ⟨0, by rw [h]; rfl⟩

/-- A finite sum of real numbers is real. -/
theorem real_sum {ι : Type} (s : Finset ι) {f : ι → EReal} (hf : ∀ i, ∃ r : ℝ, f i = r) : ∃ r : ℝ, ∑ i ∈ s, f i = r := by
  classical
  induction s using Finset.induction_on with
  | empty => exact ⟨0, by simp⟩
  | insert i s hi ih => rw [Finset.sum_insert hi]; exact real_add (hf i) ih

/-- A real number that is not negative distributes over a finite sum of extended reals. -/
theorem mul_sum_of_real {ι : Type} (s : Finset ι) (f : ι → EReal) {c : EReal} (hc : 0 ≤ c) (ht : c ≠ ⊤) :
    c * ∑ i ∈ s, f i = ∑ i ∈ s, c * f i := by
  classical
  induction s using Finset.induction_on with
  | empty => simp
  | insert i s hi ih => rw [Finset.sum_insert hi, Finset.sum_insert hi, EReal.left_distrib_of_nonneg_of_ne_top hc ht, ih]

/-- The bits of negative infinity are the least extended real. -/
theorem ofBits_neg_inf : (Ideal.ofBits FTy.f32 4286578688#32 : EReal) = ⊥ := by
  simp [Ideal.ofBits, Ideal.ieee]

namespace Args

variable {a : Args}

/-- Under finite gating inputs a logit is real. -/
theorem GatingReal.logit (H : a.GatingReal) (e : Fin 8) (t : Fin 2048) : ∃ r : ℝ, a.logit e t = r :=
  real_add (real_sum _ fun g => real_mul (H.wg2 e g)
    (real_relu (real_add (real_sum _ fun d => real_mul (H.wg1 g d) (H.x t d)) (H.bg1 g)))) (H.bg2 e)

/-- Under finite gating inputs the largest logit is real. -/
theorem GatingReal.top (H : a.GatingReal) (t : Fin 2048) : ∃ r : ℝ, a.top t = r := by
  have hlt : a.top t < ⊤ := by
    unfold Args.top
    rw [Finset.fold_max_lt, ofBits_neg_inf]
    refine ⟨bot_lt_top, fun e _ => ?_⟩
    obtain ⟨r, hr⟩ := H.logit e t
    rw [hr]; exact EReal.coe_lt_top r
  have hgt : ⊥ < a.top t := by
    obtain ⟨r, hr⟩ := H.logit 0 t
    refine lt_of_lt_of_le (EReal.bot_lt_coe r) ?_
    unfold Args.top
    rw [Finset.le_fold_max]
    exact Or.inr ⟨0, Finset.mem_univ _, hr.ge⟩
  exact ⟨(a.top t).toReal, (EReal.coe_toReal hlt.ne hgt.ne').symm⟩

/-- Under finite gating inputs every exponential of the softmax is a positive real. -/
theorem GatingReal.exp (H : a.GatingReal) (e : Fin 8) (t : Fin 2048) :
    ∃ r : ℝ, 0 < r ∧ Ideal.exp (a.logit e t - a.top t) = r := by
  obtain ⟨r, hr⟩ := real_sub (H.logit e t) (H.top t)
  rw [hr]
  exact ⟨Real.exp r, Real.exp_pos r, rfl⟩

/-- Under finite gating inputs a gate is a real number that is not negative. -/
theorem GatingReal.gate (H : a.GatingReal) (e : Fin 8) (t : Fin 2048) : 0 ≤ a.gate e t ∧ a.gate e t ≠ ⊤ := by
  choose f hf hfe using fun e => H.exp e t
  have hs : (∑ e', Ideal.exp (a.logit e' t - a.top t)) = ((∑ e', f e' : ℝ) : EReal) := by
    rw [Finset.sum_congr rfl fun e' _ => hfe e']
    exact (map_sum (⟨⟨fun r : ℝ => (r : EReal), rfl⟩, EReal.coe_add⟩ : ℝ →+ EReal) f Finset.univ).symm
  have hpos : 0 < ∑ e', f e' := Finset.sum_pos (fun e' _ => hf e') Finset.univ_nonempty
  have hg : a.gate e t = ((f e * (∑ e', f e')⁻¹ : ℝ) : EReal) := by
    unfold Args.gate
    rw [hs, hfe e, Ideal.div, if_neg (by exact_mod_cast hpos.ne'), EReal.coe_mul, EReal.coe_inv]
  rw [hg]
  exact ⟨by exact_mod_cast (mul_pos (hf e) (inv_pos.mpr hpos)).le, EReal.coe_ne_top _⟩

/-- Under finite gating inputs, the gate multiplied into the layer and the bias is the gate multiplied into the whole. -/
theorem GatingReal.term_eq (H : a.GatingReal) (e : Fin 8) (o : Fin 1024) (t : Fin 2048) :
    a.term e o t = (∑ k, a.h2 e k t * a.w3 e o k + a.b3 e o) * a.gate e t := by
  obtain ⟨h0, ht⟩ := H.gate e t
  rw [mul_comm _ (a.gate e t), EReal.left_distrib_of_nonneg_of_ne_top h0 ht, mul_sum_of_real _ _ h0 ht, Args.term]
  congr 1
  refine Finset.sum_congr rfl fun k _ => ?_
  rw [mul_comm (a.w3 e o k), mul_comm (a.h2 e k t) (a.gate e t), mul_assoc]

/-- The kernel's accumulation over the eight experts is the sum over them. -/
theorem acc_eq_sum (o : Fin 1024) (t : Fin 2048) : a.acc o t 7 = ∑ e, a.term e o t := by
  rw [Fin.sum_univ_eight]
  simp [Args.acc]

/-- THE EQUATION: under finite gating inputs the kernel's accumulated output is the reference's. -/
theorem GatingReal.acc_eq_out (H : a.GatingReal) (o : Fin 1024) (t : Fin 2048) : a.acc o t 7 = a.out o t := by
  rw [acc_eq_sum, Args.out]
  exact Finset.sum_congr rfl fun e _ => H.term_eq e o t

end Args

end Cert.MoE

end
-- ==== Proof.Points.lean ====
/- The grid's points by number: point `12 e + 4 p + g` is expert `e`, phase `p`, block `g`; which of the kernel's conditions
   hold there, and where each window's block lies. -/
module

public import proofs.«01_k».proof.Proof.State
public import proofs.«01_k».proof.Proof.Gen.KernelIdeal.Points

@[expose] public section

set_option maxRecDepth 16384

noncomputable section

namespace Cert.MoE

open Cert.KernelIdeal Cert.KernelIdeal.Gen
open Idealize.ShloMosaic

/-- A point's expert and block. -/
theorem coords_eq : ∀ t : Fin grid0.N, (grid0.coords t 0).val = t.val / 12 ∧ (grid0.coords t 2).val = t.val % 4 := by
  decide +kernel

/-- The gates are computed at the first point alone. -/
theorem atStart_iff : ∀ t : Fin grid0.N, atStart (grid0.coords t) ↔ t.val = 0 := by decide +kernel

/-- The gate row is picked at each expert's first point. -/
theorem atExpert_iff : ∀ t : Fin grid0.N, atExpert (grid0.coords t) ↔ t.val % 12 = 0 := by decide +kernel

/-- Phase 0 is an expert's first four points. -/
theorem cond3_iff : ∀ t : Fin grid0.N, k0_cond3 (grid0.coords t) = 1#1 ↔ t.val % 12 < 4 := by decide +kernel

/-- Phase 1 is an expert's next four points. -/
theorem cond4_iff : ∀ t : Fin grid0.N, k0_cond4 (grid0.coords t) = 1#1 ↔ (4 ≤ t.val % 12 ∧ t.val % 12 < 8) := by decide +kernel

/-- Phase 2 is an expert's last four points. -/
theorem cond5_iff : ∀ t : Fin grid0.N, k0_cond5 (grid0.coords t) = 1#1 ↔ 8 ≤ t.val % 12 := by decide +kernel

/-- The first expert has the first twelve points. -/
theorem cond6_iff : ∀ t : Fin grid0.N, k0_cond6 (grid0.coords t) = 1#1 ↔ t.val < 12 := by decide +kernel

/-- The later experts have the others. -/
theorem cond7_iff : ∀ t : Fin grid0.N, k0_cond7 (grid0.coords t) = 1#1 ↔ 12 ≤ t.val := by decide +kernel

/-- The windows that hold a whole array have their block at the origin. -/
theorem index_whole : ∀ t : Fin grid0.N, win0_0.index t = ![0, 0] ∧ win0_7.index t = ![0, 0] ∧ win0_8.index t = ![0, 0]
    ∧ win0_9.index t = ![0, 0] ∧ win0_10.index t = ![0, 0] ∧ win0_11.index t = ![0, 0] := by decide +kernel

/-- In phase 0 the first layer's blocks are the point's. -/
theorem index_first : ∀ t : Fin grid0.N, t.val % 12 < 4 →
    win0_1.index t = ![t.val / 12, t.val % 4, 0] ∧ win0_2.index t = ![t.val / 12, t.val % 4, 0] := by decide +kernel

/-- In phase 1 the second layer's blocks are the point's. -/
theorem index_second : ∀ t : Fin grid0.N, 4 ≤ t.val % 12 → t.val % 12 < 8 →
    win0_3.index t = ![t.val / 12, t.val % 4, 0] ∧ win0_4.index t = ![t.val / 12, t.val % 4, 0] := by decide +kernel

/-- In phase 2 the third layer's blocks are the point's. -/
theorem index_third : ∀ t : Fin grid0.N, 8 ≤ t.val % 12 →
    win0_5.index t = ![t.val / 12, t.val % 4, 0] ∧ win0_6.index t = ![t.val / 12, t.val % 4, 0] := by decide +kernel

end Cert.MoE

end
-- ==== Proof.Reads.lean ====
/- The input blocks at an index: each is the argument array at the block's place in it. -/
module

public import proofs.«01_k».proof.Proof.Math
public import proofs.«01_k».proof.Proof.Points
public import proofs.«01_k».proof.Proof.Data
public import Idealize.ShloMosaic.Lib.Pipeline.ValueKit

@[expose] public section

set_option maxRecDepth 16384

noncomputable section

namespace Cert.MoE

open Cert.KernelIdeal Cert.KernelIdeal.Gen
open Idealize.ShloMosaic Idealize.ShloMosaic.TcCoe

variable (m : (ℓ : Loc nD τ sig) → Buf (Elt Ideal) ℓ)

/-- The argument arrays of a memory on a device, by their indices. -/
def argsOf (c : Dev nD) : Args where
  x t d := m ((c : Thread nD τ).loc main_arg0) (ix2 t d)
  w1 e h d := m ((c : Thread nD τ).loc main_arg1) (ix3 e h d)
  b1 e h := m ((c : Thread nD τ).loc main_arg2) (ix2 e h)
  w2 e h k := m ((c : Thread nD τ).loc main_arg3) (ix3 e h k)
  b2 e h := m ((c : Thread nD τ).loc main_arg4) (ix2 e h)
  w3 e o k := m ((c : Thread nD τ).loc main_arg5) (ix3 e o k)
  b3 e o := m ((c : Thread nD τ).loc main_arg6) (ix2 e o)
  wg1 g d := m ((c : Thread nD τ).loc main_arg7) (ix2 g d)
  bg1 g := m ((c : Thread nD τ).loc main_arg8) (ix1 g)
  wg2 e g := m ((c : Thread nD τ).loc main_arg9) (ix2 e g)
  bg2 e := m ((c : Thread nD τ).loc main_arg10) (ix1 e)

/-- The region finds the tokens transposed. -/
theorem V_x (c : Dev nD) : V m c main_call0_v1
    = truncf (F := Ideal) .bf16 (transpose S1024x2048 [1, 0] (m ((c : Thread nD τ).loc main_arg0)) transposes_S2048x1024_S1024x2048_1_0) bitsLt_bf16_f32 := by
  show StableHlo.after _ _ _ = _
  simp only [hostOps0, List.flatten_cons, List.flatten_nil, List.append_nil]
  after_results
  rfl

/-- The region finds the first biases with a trailing unit axis. -/
theorem V_b1 (c : Dev nD) : V m c main_call0_v2 = broadcastInDim S8x2048x1 ![0, 1] bcast_S8x2048_S8x2048x1_0_1 (m ((c : Thread nD τ).loc main_arg2)) := by
  show StableHlo.after _ _ _ = _
  simp only [hostOps0, List.flatten_cons, List.flatten_nil, List.append_nil]
  after_results
  rfl

/-- The region finds the second biases with a trailing unit axis. -/
theorem V_b2 (c : Dev nD) : V m c main_call0_v3 = broadcastInDim S8x2048x1 ![0, 1] bcast_S8x2048_S8x2048x1_0_1 (m ((c : Thread nD τ).loc main_arg4)) := by
  show StableHlo.after _ _ _ = _
  simp only [hostOps0, List.flatten_cons, List.flatten_nil, List.append_nil]
  after_results
  rfl

/-- The region finds the third biases with a trailing unit axis. -/
theorem V_b3 (c : Dev nD) : V m c main_call0_v4 = broadcastInDim S8x1024x1 ![0, 1] bcast_S8x1024_S8x1024x1_0_1 (m ((c : Thread nD τ).loc main_arg6)) := by
  show StableHlo.after _ _ _ = _
  simp only [hostOps0, List.flatten_cons, List.flatten_nil, List.append_nil]
  after_results
  rfl

/-- The region finds the gating network's first bias with a trailing unit axis. -/
theorem V_bg1 (c : Dev nD) : V m c main_call0_v5 = broadcastInDim S64x1 ![0] bcast_S64_S64x1_0 (m ((c : Thread nD τ).loc main_arg8)) := by
  show StableHlo.after _ _ _ = _
  simp only [hostOps0, List.flatten_cons, List.flatten_nil, List.append_nil]
  after_results
  rfl

/-- The region finds the gating network's second bias with a trailing unit axis. -/
theorem V_bg2 (c : Dev nD) : V m c main_call0_v6 = broadcastInDim S8x1 ![0] bcast_S8_S8x1_0 (m ((c : Thread nD τ).loc main_arg10)) := by
  show StableHlo.after _ _ _ = _
  simp only [hostOps0, List.flatten_cons, List.flatten_nil, List.append_nil]
  after_results
  rfl

/-- The tokens' block. -/
theorem read_x (c : Dev nD) (t : Fin cfg0.N) (d : Fin 1024) (n : Fin 2048) : (blocks m c t).x (ix2 d n) = (argsOf m c).x n d := by
  show (V m c main_call0_v1) (((cfg0.win 0).blk t).view.emb (ix2 d n)) = m ((c : Thread nD τ).loc main_arg0) (ix2 n d)
  have e : ((cfg0.win 0).blk t).view.emb (ix2 d n) = ix2 d n := by blk_ext [index_whole t]
  rw [V_x, e]
  pointwise

/-- The gating network's first weights. -/
theorem read_wg1 (c : Dev nD) (t : Fin cfg0.N) (i : Fin 64) (j : Fin 1024) : (blocks m c t).wg1 (ix2 i j) = (argsOf m c).wg1 i j := by
  show iblk m c 7 t (ix2 i j) = m ((c : Thread nD τ).loc main_arg7) (ix2 i j)
  blk_ext [iblk, V, index_whole t]

/-- The gating network's second weights. -/
theorem read_wg2 (c : Dev nD) (t : Fin cfg0.N) (i : Fin 8) (j : Fin 64) : (blocks m c t).wg2 (ix2 i j) = (argsOf m c).wg2 i j := by
  show iblk m c 9 t (ix2 i j) = m ((c : Thread nD τ).loc main_arg9) (ix2 i j)
  blk_ext [iblk, V, index_whole t]

/-- The gating network's first bias. -/
theorem read_bg1 (c : Dev nD) (t : Fin cfg0.N) (i : Fin 64) : (blocks m c t).bg1 (ix2 i 0) = (argsOf m c).bg1 i := by
  show (V m c main_call0_v5) (((cfg0.win 8).blk t).view.emb (ix2 i 0)) = m ((c : Thread nD τ).loc main_arg8) (ix1 i)
  have e : ((cfg0.win 8).blk t).view.emb (ix2 i 0) = ix2 i 0 := by blk_ext [index_whole t]
  rw [V_bg1, e]
  pointwise

/-- The gating network's second bias. -/
theorem read_bg2 (c : Dev nD) (t : Fin cfg0.N) (i : Fin 8) : (blocks m c t).bg2 (ix2 i 0) = (argsOf m c).bg2 i := by
  show (V m c main_call0_v6) (((cfg0.win 10).blk t).view.emb (ix2 i 0)) = m ((c : Thread nD τ).loc main_arg10) (ix1 i)
  have e : ((cfg0.win 10).blk t).view.emb (ix2 i 0) = ix2 i 0 := by blk_ext [index_whole t]
  rw [V_bg2, e]
  pointwise

/-- The first layer's weights in phase 0: expert `e`'s rows from `512 (t mod 4)`. -/
theorem read_w1 (c : Dev nD) (t : Fin cfg0.N) (ht : t.val % 12 < 4) (e : Fin 8) (he : e.val = t.val / 12) (k : Fin 2048)
    (h : Fin 512) (hk : k.val = 512 * (t.val % 4) + h.val) (j : Fin 1024) :
    (blocks m c t).w1 (ix3 0 h j) = (argsOf m c).w1 e k j := by
  show iblk m c 1 t (ix3 0 h j) = m ((c : Thread nD τ).loc main_arg1) (ix3 e k j)
  blk_ext [iblk, V, index_first t ht]

/-- The first layer's biases in phase 0. -/
theorem read_b1 (c : Dev nD) (t : Fin cfg0.N) (ht : t.val % 12 < 4) (e : Fin 8) (he : e.val = t.val / 12) (k : Fin 2048)
    (h : Fin 512) (hk : k.val = 512 * (t.val % 4) + h.val) : (blocks m c t).b1 (ix3 0 h 0) = (argsOf m c).b1 e k := by
  show (V m c main_call0_v2) (((cfg0.win 2).blk t).view.emb (ix3 0 h 0)) = m ((c : Thread nD τ).loc main_arg2) (ix2 e k)
  have e' : ((cfg0.win 2).blk t).view.emb (ix3 0 h 0) = ix3 e k 0 := by blk_ext [index_first t ht]
  rw [V_b1, e']
  pointwise

/-- The second layer's weights in phase 1: expert `e`'s rows from `512 (t mod 4)`. -/
theorem read_w2 (c : Dev nD) (t : Fin cfg0.N) (ht : 4 ≤ t.val % 12) (ht8 : t.val % 12 < 8) (e : Fin 8) (he : e.val = t.val / 12) (k : Fin 2048)
    (h : Fin 512) (hk : k.val = 512 * (t.val % 4) + h.val) (j : Fin 2048) :
    (blocks m c t).w2 (ix3 0 h j) = (argsOf m c).w2 e k j := by
  show iblk m c 3 t (ix3 0 h j) = m ((c : Thread nD τ).loc main_arg3) (ix3 e k j)
  blk_ext [iblk, V, index_second t ht ht8]

/-- The second layer's biases in phase 1. -/
theorem read_b2 (c : Dev nD) (t : Fin cfg0.N) (ht : 4 ≤ t.val % 12) (ht8 : t.val % 12 < 8) (e : Fin 8) (he : e.val = t.val / 12) (k : Fin 2048)
    (h : Fin 512) (hk : k.val = 512 * (t.val % 4) + h.val) : (blocks m c t).b2 (ix3 0 h 0) = (argsOf m c).b2 e k := by
  show (V m c main_call0_v3) (((cfg0.win 4).blk t).view.emb (ix3 0 h 0)) = m ((c : Thread nD τ).loc main_arg4) (ix2 e k)
  have e' : ((cfg0.win 4).blk t).view.emb (ix3 0 h 0) = ix3 e k 0 := by blk_ext [index_second t ht ht8]
  rw [V_b2, e']
  pointwise

/-- The third layer's weights in phase 2: expert `e`'s rows from `256 (t mod 4)`. -/
theorem read_w3 (c : Dev nD) (t : Fin cfg0.N) (ht : 8 ≤ t.val % 12) (e : Fin 8) (he : e.val = t.val / 12) (k : Fin 1024)
    (h : Fin 256) (hk : k.val = 256 * (t.val % 4) + h.val) (j : Fin 2048) :
    (blocks m c t).w3 (ix3 0 h j) = (argsOf m c).w3 e k j := by
  show iblk m c 5 t (ix3 0 h j) = m ((c : Thread nD τ).loc main_arg5) (ix3 e k j)
  blk_ext [iblk, V, index_third t ht]

/-- The third layer's biases in phase 2. -/
theorem read_b3 (c : Dev nD) (t : Fin cfg0.N) (ht : 8 ≤ t.val % 12) (e : Fin 8) (he : e.val = t.val / 12) (k : Fin 1024)
    (h : Fin 256) (hk : k.val = 256 * (t.val % 4) + h.val) : (blocks m c t).b3 (ix3 0 h 0) = (argsOf m c).b3 e k := by
  show (V m c main_call0_v4) (((cfg0.win 6).blk t).view.emb (ix3 0 h 0)) = m ((c : Thread nD τ).loc main_arg6) (ix2 e k)
  have e' : ((cfg0.win 6).blk t).view.emb (ix3 0 h 0) = ix3 e k 0 := by blk_ext [index_third t ht]
  rw [V_b3, e']
  pointwise

end Cert.MoE

end
-- ==== Proof.Layers.lean ====
/- What each of the kernel's stored vectors holds at an index, on the extended reals: the gates, one expert's gate row, a
   block of each hidden layer, a block of one expert's contribution. -/
module

public import proofs.«01_k».proof.Proof.State
public import Idealize.ShloMosaic.Lib.Pointwise

@[expose] public section

set_option maxRecDepth 16384

noncomputable section

namespace Cert.MoE

open Cert.KernelIdeal Cert.KernelIdeal.Gen
open Idealize.ShloMosaic

/-- A gating logit from the blocks. -/
def logitOf (wg1 : Vec Ideal S64x1024 .f32) (x : Vec Ideal S1024x2048 .bf16) (bg1 : Vec Ideal S64x1 .f32)
    (wg2 : Vec Ideal S8x64 .f32) (bg2 : Vec Ideal S8x1 .f32) (e : Fin 8) (t : Fin 2048) : EReal :=
  ∑ g : Fin 64, wg2 (ix2 e g) * max (∑ d : Fin 1024, wg1 (ix2 g d) * x (ix2 d t) + bg1 (ix2 g 0)) 0 + bg2 (ix2 e 0)

/-- The largest gating logit from the blocks. -/
def topOf (wg1 : Vec Ideal S64x1024 .f32) (x : Vec Ideal S1024x2048 .bf16) (bg1 : Vec Ideal S64x1 .f32)
    (wg2 : Vec Ideal S8x64 .f32) (bg2 : Vec Ideal S8x1 .f32) (t : Fin 2048) : EReal :=
  Finset.fold max (Ideal.ofBits FTy.f32 4286578688#32) (fun e => logitOf wg1 x bg1 wg2 bg2 e t) Finset.univ

/-- The gates: the softmax of the gating logits. -/
theorem pay1_at (wg1 : Vec Ideal S64x1024 .f32) (x : Vec Ideal S1024x2048 .bf16) (bg1 : Vec Ideal S64x1 .f32)
    (wg2 : Vec Ideal S8x64 .f32) (bg2 : Vec Ideal S8x1 .f32) (e : Fin 8) (t : Fin 2048) :
    k0_pay1 wg1 x bg1 wg2 bg2 (ix2 e t)
      = Ideal.div (Ideal.exp (logitOf wg1 x bg1 wg2 bg2 e t - topOf wg1 x bg1 wg2 bg2 t))
          (∑ e' : Fin 8, Ideal.exp (logitOf wg1 x bg1 wg2 bg2 e' t - topOf wg1 x bg1 wg2 bg2 t)) := by
  unfold topOf logitOf
  pointwise [k0_pay1]

/-- The mask of the experts equal to the point's: one at that expert, zero elsewhere. -/
theorem mask_at (x e : Fin 8) :
    (FloatOps.sitofp (F := Ideal) FTy.f32 (BitVec.setWidth 32 (IntOp.cmpi CmpIPredicate.eq (BitVec.ofNat 32 x.val) (BitVec.ofNat 32 e.val))) : EReal)
      = if x = e then 1 else 0 := by
  show (((BitVec.setWidth 32 (IntOp.cmpi CmpIPredicate.eq (BitVec.ofNat 32 x.val) (BitVec.ofNat 32 e.val))).toInt : ℝ) : EReal) = _
  rw [(by decide +kernel : ∀ x e : Fin 8, (BitVec.setWidth 32 (IntOp.cmpi CmpIPredicate.eq (BitVec.ofNat 32 x.val) (BitVec.ofNat 32 e.val))).toInt
    = if x = e then 1 else 0) x e]
  split <;> simp

/-- The gate row: the sum of the gates under the mask is the point's expert's gate. -/
theorem pay2_at (i : grid0.Coords) (g : Vec Ideal S8x2048 .f32) (t : Fin 2048) :
    k0_pay2 i g (ix2 (0 : Fin 1) t) = g (ix2 (i 0) t) := by
  pointwise [k0_pay2]
  refine (Finset.sum_eq_single (i 0 : Fin 8) (fun x _ hx => ?_) (fun h => absurd (Finset.mem_univ _) h)).trans ?_
  · exact (congrArg _ ((mask_at x (i 0)).trans (if_neg hx))).trans (mul_zero _)
  · exact (congrArg _ ((mask_at (i 0) (i 0)).trans (if_pos rfl))).trans (mul_one _)

/-- A block of the first hidden layer. -/
theorem pay3_at (w : Vec Ideal S1x512x1024 .f32) (x : Vec Ideal S1024x2048 .bf16) (b : Vec Ideal S1x512x1 .f32) (h : Fin 512) (t : Fin 2048) :
    (k0_pay3 w x b (ix2 h t) : EReal) = max (∑ d : Fin 1024, w (ix3 0 h d) * x (ix2 d t) + b (ix3 0 h 0)) 0 := by
  pointwise [k0_pay3]

/-- A block of the second hidden layer, multiplied by the gate row. -/
theorem pay4_at (w : Vec Ideal S1x512x2048 .f32) (x : Vec Ideal S2048x2048 .bf16) (b : Vec Ideal S1x512x1 .f32) (r : Vec Ideal S1x2048 .f32)
    (h : Fin 512) (t : Fin 2048) :
    (k0_pay4 w x b r (ix2 h t) : EReal) = max (∑ k : Fin 2048, w (ix3 0 h k) * x (ix2 k t) + b (ix3 0 h 0)) 0 * r (ix2 0 t) := by
  pointwise [k0_pay4]

/-- A block of an expert's contribution. -/
theorem pay5_at (w : Vec Ideal S1x256x2048 .f32) (x : Vec Ideal S2048x2048 .bf16) (r : Vec Ideal S1x2048 .f32) (b : Vec Ideal S1x256x1 .f32)
    (h : Fin 256) (t : Fin 2048) :
    (k0_pay5 w x r b (ix2 h t) : EReal) = ∑ k : Fin 2048, w (ix3 0 h k) * x (ix2 k t) + r (ix2 0 t) * b (ix3 0 h 0) := by
  pointwise [k0_pay5]

/-- The same added to what was there. -/
theorem pay6_at (w : Vec Ideal S1x256x2048 .f32) (x : Vec Ideal S2048x2048 .bf16) (r : Vec Ideal S1x2048 .f32) (b : Vec Ideal S1x256x1 .f32)
    (y : Vec Ideal S256x2048 .f32) (h : Fin 256) (t : Fin 2048) :
    (k0_pay6 w x r b y (ix2 h t) : EReal) = y (ix2 h t) + (∑ k : Fin 2048, w (ix3 0 h k) * x (ix2 k t) + r (ix2 0 t) * b (ix3 0 h 0)) := by
  pointwise [k0_pay6, k0_pay5]

end Cert.MoE

end
-- ==== Proof.Rows.lean ====
/- A block of consecutive rows written into, or read out of, a matrix: what an element is, by its row. -/
module

public import Idealize.ShloMosaic.Lib.VecWindow
public import Idealize.ShloMosaic.Lib.Pointwise

@[expose] public section

namespace Cert.MoE

open Idealize.ShloMosaic

variable {α : Type} {R C B : ℕ}

/-- Row `o + j` of a matrix after a block has been written from row `o` on is row `j` of the block. -/
theorem put_in (x : (⟨2, ![R, C]⟩ : Shape).Idx → α) (off : Fin 2 → ℕ) (o : ℕ) (hoff : off = ![o, 0]) (w : (⟨2, ![B, C]⟩ : Shape).Idx → α)
    (h : Fin R) (t : Fin C) (j : Fin B) (hj : h.val = o + j.val) :
    VecWindow.put (s := ⟨2, ![R, C]⟩) x off (⟨2, ![B, C]⟩ : Shape).size w (ix2 h t) = w (ix2 j t) := by
  subst hoff
  unfold VecWindow.put
  have H : ∀ a : Fin 2, (![o, 0] : Fin 2 → ℕ) a ≤ (ix2 h t : (⟨2, ![R, C]⟩ : Shape).Idx) a
      ∧ ((ix2 h t : (⟨2, ![R, C]⟩ : Shape).Idx) a : ℕ) < (![o, 0] : Fin 2 → ℕ) a + (⟨2, ![B, C]⟩ : Shape).size a := by
    intro a
    fin_cases a
    · show o ≤ h.val ∧ h.val < o + B
      have := j.isLt; omega
    · show 0 ≤ t.val ∧ t.val < 0 + C
      have := t.isLt; omega
  rw [dif_pos H]
  congr 1
  funext a
  fin_cases a
  · refine Fin.ext ?_
    show h.val - o = j.val
    omega
  · refine Fin.ext ?_
    show t.val - 0 = t.val
    omega

/-- A row outside the block is unchanged. -/
theorem put_out (x : (⟨2, ![R, C]⟩ : Shape).Idx → α) (off : Fin 2 → ℕ) (o : ℕ) (hoff : off = ![o, 0]) (w : (⟨2, ![B, C]⟩ : Shape).Idx → α)
    (h : Fin R) (t : Fin C) (hj : h.val < o ∨ o + B ≤ h.val) :
    VecWindow.put (s := ⟨2, ![R, C]⟩) x off (⟨2, ![B, C]⟩ : Shape).size w (ix2 h t) = x (ix2 h t) := by
  subst hoff
  unfold VecWindow.put
  rw [dif_neg]
  intro H
  have H0 : o ≤ h.val ∧ h.val < o + B := H 0
  omega

/-- Row `j` of the block read from row `o` on is row `o + j` of the matrix. -/
theorem window_at (x : (⟨2, ![R, C]⟩ : Shape).Idx → α) (off : Fin 2 → ℕ) (o : ℕ) (hoff : off = ![o, 0])
    (inb : ∀ a, off a + (⟨2, ![B, C]⟩ : Shape).size a ≤ (⟨2, ![R, C]⟩ : Shape).size a)
    (h : Fin R) (t : Fin C) (j : Fin B) (hj : h.val = o + j.val) :
    VecWindow.window (s := ⟨2, ![R, C]⟩) x off (⟨2, ![B, C]⟩ : Shape).size inb (ix2 j t) = x (ix2 h t) := by
  subst hoff
  unfold VecWindow.window
  congr 1
  funext a
  fin_cases a
  · refine Fin.ext ?_
    show o + 1 * j.val = h.val
    omega
  · refine Fin.ext ?_
    show 0 + 1 * t.val = t.val
    omega

end Cert.MoE
-- ==== Proof.ScratchValue.lean ====
/- What the scratch buffers hold before each grid point: the gates after the first point, the current expert's gate row
   after its first point, and the rows of its two hidden layers that its points so far have computed. -/
module

public import proofs.«01_k».proof.Proof.Reads
public import proofs.«01_k».proof.Proof.Layers
public import proofs.«01_k».proof.Proof.Rows

@[expose] public section

set_option maxRecDepth 16384

noncomputable section

namespace Cert.MoE

open Cert.KernelIdeal Cert.KernelIdeal.Gen
open Idealize.ShloMosaic Idealize.ShloMosaic.TcCoe

/-- The scratch contents `s` are right before point `k`. -/
structure Good (a : Args) (k : ℕ) (s : Scratch Ideal) : Prop where
  gates : 1 ≤ k → ∀ (e : Fin 8) (t : Fin 2048), s.gates (ix2 e t) = a.gate e t
  row : ∀ e : Fin 8, 12 * e.val < k → k ≤ 12 * e.val + 12 → ∀ t : Fin 2048, s.row (ix2 (0 : Fin 1) t) = a.gate e t
  h1 : ∀ e : Fin 8, k ≤ 12 * e.val + 12 → ∀ h t : Fin 2048, 12 * e.val + h.val / 512 < k → s.h1 (ix2 h t) = a.h1 e h t
  h2 : ∀ e : Fin 8, k ≤ 12 * e.val + 12 → ∀ h t : Fin 2048, 12 * e.val + 4 + h.val / 512 < k →
    s.h2 (ix2 h t) = a.h2 e h t * a.gate e t

variable (m : (ℓ : Loc nD τ sig) → Buf (Elt Ideal) ℓ) (c : Dev nD)

/-- The gates computed from blocks that hold the arguments are the gates of the arguments. -/
theorem gates_of (a : Args) (wg1 : Vec Ideal S64x1024 .f32) (x : Vec Ideal S1024x2048 .bf16) (bg1 : Vec Ideal S64x1 .f32)
    (wg2 : Vec Ideal S8x64 .f32) (bg2 : Vec Ideal S8x1 .f32) (h1 : ∀ g d, wg1 (ix2 g d) = a.wg1 g d) (hx : ∀ d n, x (ix2 d n) = a.x n d)
    (h2 : ∀ g, bg1 (ix2 g 0) = a.bg1 g) (h3 : ∀ e g, wg2 (ix2 e g) = a.wg2 e g) (h4 : ∀ e, bg2 (ix2 e 0) = a.bg2 e)
    (e : Fin 8) (n : Fin 2048) : k0_pay1 wg1 x bg1 wg2 bg2 (ix2 e n) = a.gate e n := by
  have hl : ∀ e n, logitOf wg1 x bg1 wg2 bg2 e n = a.logit e n := by
    intro e n
    unfold logitOf Args.logit Args.hidden
    simp only [h1, hx, h2, h3, h4]
  have ht : topOf wg1 x bg1 wg2 bg2 n = a.top n := by
    unfold topOf Args.top
    simp only [hl]
  refine (pay1_at wg1 x bg1 wg2 bg2 e n).trans ?_
  unfold Args.gate
  simp only [hl, ht]

/-- The gates computed from any point's blocks are the gates of the arguments. -/
theorem gates_value (t : Fin cfg0.N) (e : Fin 8) (n : Fin 2048) :
    k0_pay1 (blocks m c t).wg1 (blocks m c t).x (blocks m c t).bg1 (blocks m c t).wg2 (blocks m c t).bg2 (ix2 e n)
      = (argsOf m c).gate e n :=
  gates_of (argsOf m c) _ _ _ _ _ (read_wg1 m c t) (read_x m c t) (read_bg1 m c t) (read_wg2 m c t) (read_bg2 m c t) e n

/-- A block of the first hidden layer computed in phase 0. -/
theorem h1_value (t : Fin cfg0.N) (ht : t.val % 12 < 4) (e : Fin 8) (he : e.val = t.val / 12) (h : Fin 2048) (j : Fin 512)
    (hj : h.val = 512 * (t.val % 4) + j.val) (n : Fin 2048) :
    k0_pay3 (blocks m c t).w1 (blocks m c t).x (blocks m c t).b1 (ix2 j n) = (argsOf m c).h1 e h n := by
  rw [pay3_at, read_b1 m c t ht e he h j hj]
  unfold Args.h1
  congr 2
  refine Finset.sum_congr rfl fun d _ => ?_
  rw [read_w1 m c t ht e he h j hj, read_x]

/-- A block of the second hidden layer computed in phase 1 from a right first layer and gate row. -/
theorem h2_value (t : Fin cfg0.N) (ht : 4 ≤ t.val % 12) (ht8 : t.val % 12 < 8) (e : Fin 8) (he : e.val = t.val / 12)
    (h : Fin 2048) (j : Fin 512) (hj : h.val = 512 * (t.val % 4) + j.val) (n : Fin 2048) (s : Scratch Ideal)
    (hs : Good (argsOf m c) t.val s) :
    k0_pay4 (blocks m c t).w2 s.h1 (blocks m c t).b2 s.row (ix2 j n) = (argsOf m c).h2 e h n * (argsOf m c).gate e n := by
  rw [pay4_at, read_b2 m c t ht ht8 e he h j hj, hs.row e (by omega) (by omega)]
  unfold Args.h2
  congr 3
  refine Finset.sum_congr rfl fun k _ => ?_
  rw [read_w2 m c t ht ht8 e he h j hj, hs.h1 e (by omega) k n (by have := k.isLt; omega)]

/-- One point keeps the scratch contents right. -/
theorem good_step (t : Fin cfg0.N) (s : Scratch Ideal) (hs : Good (argsOf m c) t.val s) :
    Good (argsOf m c) (t.val + 1) (scratchAfter (grid0.coords t) (blocks m c t) s) := by
  have hN : t.val < 96 := t.isLt
  have hg : ∀ (e : Fin 8) (n : Fin 2048), gatesAfter (grid0.coords t) (blocks m c t) s (ix2 e n) = (argsOf m c).gate e n := by
    intro e n
    unfold gatesAfter
    by_cases h0 : t.val = 0
    · rw [if_pos ((atStart_iff t).mpr h0), gates_value]
    · rw [if_neg (fun h => h0 ((atStart_iff t).mp h)), hs.gates (by omega)]
  refine ⟨fun _ => hg, fun e he he' n => ?_, fun e he h n hh => ?_, fun e he h n hh => ?_⟩
  · show rowAfter (grid0.coords t) (blocks m c t) s (ix2 (0 : Fin 1) n) = _
    unfold rowAfter
    by_cases h0 : t.val % 12 = 0
    · rw [if_pos ((atExpert_iff t).mpr h0), pay2_at]
      have : (grid0.coords t 0 : Fin 8) = e := Fin.ext ((coords_eq t).1.trans (by omega))
      exact (hg (grid0.coords t 0) n).trans (congrArg (fun e => (argsOf m c).gate e n) this)
    · rw [if_neg (fun h => h0 ((atExpert_iff t).mp h)), hs.row e (by omega) (by omega)]
  · show h1After (grid0.coords t) (blocks m c t) s (ix2 h n) = _
    unfold h1After
    have hoff : k0_off1 (grid0.coords t) = ![512 * (t.val % 4), 0] := by rw [k0_off1_eq, (coords_eq t).2]
    have hh' := h.isLt
    by_cases h3 : t.val % 12 < 4
    · rw [if_pos ((cond3_iff t).mpr h3)]
      by_cases hb : h.val / 512 = t.val % 4
      · exact (put_in s.h1 _ _ hoff _ h n ⟨h.val - 512 * (t.val % 4), by omega⟩ (by show h.val = _ + (h.val - _); omega)).trans
          (h1_value m c t h3 e (by omega) h _ (by show h.val = _ + (h.val - _); omega) n)
      · exact (put_out s.h1 _ _ hoff _ h n (by omega)).trans (hs.h1 e (by omega) h n (by omega))
    · rw [if_neg (fun h => h3 ((cond3_iff t).mp h))]
      exact hs.h1 e (by omega) h n (by omega)
  · show h2After (grid0.coords t) (blocks m c t) s (ix2 h n) = _
    unfold h2After
    have hoff : k0_off2 (grid0.coords t) = ![512 * (t.val % 4), 0] := by rw [k0_off2_eq, (coords_eq t).2]
    have hh' := h.isLt
    by_cases h4 : 4 ≤ t.val % 12 ∧ t.val % 12 < 8
    · rw [if_pos ((cond4_iff t).mpr h4)]
      by_cases hb : h.val / 512 = t.val % 4
      · exact (put_in s.h2 _ _ hoff _ h n ⟨h.val - 512 * (t.val % 4), by omega⟩ (by show h.val = _ + (h.val - _); omega)).trans
          (h2_value m c t h4.1 h4.2 e (by omega) h _ (by show h.val = _ + (h.val - _); omega) n s hs)
      · exact (put_out s.h2 _ _ hoff _ h n (by omega)).trans (hs.h2 e (by omega) h n (by omega))
    · rw [if_neg (fun h => h4 ((cond4_iff t).mp h))]
      exact hs.h2 e (by omega) h n (by omega)

/-- Whatever the scratch buffers held at the start, they are right before every point. -/
theorem good_scr (s : Scratch Ideal) : ∀ k : ℕ, k ≤ cfg0.N → Good (argsOf m c) k (scr m c s k)
  | 0, _ => ⟨fun h => absurd h (by omega), fun _ h => absurd h (by omega), fun _ _ _ _ h => absurd h (by omega),
      fun _ _ _ _ h => absurd h (by omega)⟩
  | k + 1, hk => by
    have := good_step m c ⟨k, hk⟩ _ (good_scr s k (by omega))
    rwa [← scr_succ] at this

end Cert.MoE

end
-- ==== Proof.Output.lean ====
/- What the output's array holds at the end: at every output and token, the kernel's sum over all eight experts. -/
module

public import proofs.«01_k».proof.Proof.ScratchValue
public import Idealize.ShloMosaic.Lib.Pipeline.ArrRel

@[expose] public section

set_option maxRecDepth 16384

noncomputable section

namespace Cert.MoE

open Cert.KernelIdeal Cert.KernelIdeal.Gen
open Idealize.ShloMosaic Idealize.ShloMosaic.TcCoe
open Idealize.ShloMosaic.Pipeline (RDat)

/-- The output's staging buffer `Y` is right before point `k`: a row holds the sum over the experts up to `e` from that
    expert's point for the row's block to the next expert's. -/
def Done (a : Args) (k : ℕ) (Y : S1024x2048.Idx → Elt Ideal .f32) : Prop :=
  ∀ (e : ℕ), e < 8 → ∀ (o : Fin 1024) (n : Fin 2048), 12 * e + 8 + o.val / 256 < k → k ≤ 12 * e + 20 + o.val / 256 →
    Y (ix2 o n) = a.acc o n e

variable (m : (ℓ : Loc nD τ sig) → Buf (Elt Ideal) ℓ) (c : Dev nD)

/-- A block of an expert's contribution computed in phase 2 from right scratch contents. -/
theorem term_value (t : Fin cfg0.N) (ht : 8 ≤ t.val % 12) (e : Fin 8) (he : e.val = t.val / 12) (o : Fin 1024) (j : Fin 256)
    (hj : o.val = 256 * (t.val % 4) + j.val) (n : Fin 2048) (s : Scratch Ideal) (hs : Good (argsOf m c) t.val s) :
    k0_pay5 (blocks m c t).w3 s.h2 s.row (blocks m c t).b3 (ix2 j n) = (argsOf m c).term e o n := by
  have hN : t.val < 96 := t.isLt
  rw [pay5_at, read_b3 m c t ht e he o j hj, hs.row e (by omega) (by omega)]
  unfold Args.term
  congr 1
  refine Finset.sum_congr rfl fun k _ => ?_
  rw [read_w3 m c t ht e he o j hj, hs.h2 e (by omega) k n (by have := k.isLt; omega)]

/-- The block a later expert stores is what was there and its contribution. -/
theorem pay6_split (w : Vec Ideal S1x256x2048 .f32) (x : Vec Ideal S2048x2048 .bf16) (r : Vec Ideal S1x2048 .f32) (b : Vec Ideal S1x256x1 .f32)
    (y : Vec Ideal S256x2048 .f32) (h : Fin 256) (t : Fin 2048) :
    (k0_pay6 w x r b y (ix2 h t) : EReal) = y (ix2 h t) + k0_pay5 w x r b (ix2 h t) := by
  rw [pay6_at, pay5_at]

/-- One point keeps the output's staging buffer right. -/
theorem done_step (t : Fin cfg0.N) (s : Scratch Ideal) (hs : Good (argsOf m c) t.val s) (Y : S1024x2048.Idx → Elt Ideal .f32)
    (hY : Done (argsOf m c) t.val Y) : Done (argsOf m c) (t.val + 1) (outAfter (grid0.coords t) (blocks m c t) s Y) := by
  intro e he o n h1 h2
  have hN : t.val < 96 := t.isLt
  have ho := o.isLt
  have hoff3 : k0_off3 (grid0.coords t) = ![256 * (t.val % 4), 0] := by rw [k0_off3_eq, (coords_eq t).2]
  have hoff4 : k0_off4 (grid0.coords t) = ![256 * (t.val % 4), 0] := by rw [k0_off4_eq, (coords_eq t).2]
  unfold outAfter
  by_cases h5 : 8 ≤ t.val % 12
  · rw [dif_pos ((cond5_iff t).mpr h5)]
    by_cases hb : o.val / 256 = t.val % 4
    · have hj : o.val = 256 * (t.val % 4) + (o.val - 256 * (t.val % 4)) := by omega
      have hjl : o.val - 256 * (t.val % 4) < 256 := by omega
      by_cases h6 : t.val < 12
      · rw [if_pos ((cond6_iff t).mpr h6)]
        have e0 : e = 0 := by omega
        subst e0
        exact (put_in Y _ _ hoff3 _ o n ⟨_, hjl⟩ hj).trans (term_value m c t h5 0 (by show 0 = _; omega) o ⟨_, hjl⟩ hj n s hs)
      · rw [if_neg (fun h => h6 ((cond6_iff t).mp h)), dif_pos ((cond7_iff t).mpr (by omega))]
        obtain ⟨e', rfl⟩ : ∃ e', e = e' + 1 := ⟨e - 1, by omega⟩
        refine (put_in Y _ _ hoff4 _ o n ⟨_, hjl⟩ hj).trans ((pay6_split _ _ _ _ _ _ _).trans ?_)
        rw [term_value m c t h5 ⟨e' + 1, he⟩ (by show e' + 1 = _; omega) o ⟨_, hjl⟩ hj n s hs, Args.acc, dif_pos he]
        exact congrArg (· + _) ((window_at Y _ _ hoff4 _ o n ⟨_, hjl⟩ hj).trans (hY e' (by omega) o n (by omega) (by omega)))
    · have hout : o.val < 256 * (t.val % 4) ∨ 256 * (t.val % 4) + 256 ≤ o.val := by omega
      have hk := hY e he o n (by omega) (by omega)
      by_cases h6 : t.val < 12
      · rw [if_pos ((cond6_iff t).mpr h6)]
        exact (put_out Y _ _ hoff3 _ o n hout).trans hk
      · rw [if_neg (fun h => h6 ((cond6_iff t).mp h)), dif_pos ((cond7_iff t).mpr (by omega))]
        exact (put_out Y _ _ hoff4 _ o n hout).trans hk
  · rw [dif_neg (fun h => h5 ((cond5_iff t).mp h))]
    exact hY e he o n (by omega) (by omega)

/-- The output's window is never fetched. -/
theorem fetch_out : ∀ t : Fin cfg0.N, (cfg0.win 11).fetch t = false := fun _ => rfl

/-- What the body leaves in the output's staging buffer is right before the next point, if what it found was right. -/
theorem done_leaves (t : Fin cfg0.N) (hf : ∀ Y, (rdat m c).Finds 11 t Y → Done (argsOf m c) t.val Y) (X)
    (hX : (rdat m c).Leaves 11 t X) : Done (argsOf m c) (t.val + 1) X := by
  obtain ⟨Y, hY, s, rfl⟩ := hX
  exact done_step m c t _ (good_scr m c s t.val t.isLt.le) Y (hf Y hY)

/-- What the body finds in the output's staging buffer is right. -/
theorem done_finds : ∀ (k : ℕ) (hk : k < cfg0.N) (Y), (rdat m c).Finds 11 ⟨k, hk⟩ Y → Done (argsOf m c) k Y
  | 0, _, _, _ => fun _ _ _ _ h => absurd h (by omega)
  | k + 1, hk, Y, hY => by
    have hN : k + 1 < 96 := hk
    rcases ((rdat m c).finds_of_pos (fetch_out ⟨k + 1, hk⟩) (Nat.succ_ne_zero k) Y).mp hY with h | h
    · have := (flush0_11 _).mp h
      simp only [Nat.add_sub_cancel] at this
      omega
    · exact done_leaves m c ⟨k, by omega⟩ (done_finds k (by omega)) Y h

/-- THE OUTPUT ARRAY: at the end it holds the kernel's sum over all eight experts. -/
theorem output_value (A : Buf (Elt Ideal) ((cfg0.win 11).arr.view.loc (c.tc : Thread nD τ))) (hA : (rdat m c).ArrAt 11 cfg0.N A)
    (o : Fin 1024) (n : Fin 2048) : A (ix2 o n) = (argsOf m c).acc o n 7 := by
  obtain ⟨X, hX, hG⟩ := hA.emb_eq_of_wholeAt (t₀ := ⟨95, by decide⟩) (by decide +kernel)
  have hD := done_leaves m c ⟨95, by decide⟩ (done_finds m c 95 (by decide)) X hX
  have hXv := hD 7 (by decide) o n (by have := o.isLt; show _ < 96; omega) (by show 96 ≤ _; omega)
  exact (hG (ix2 o n)).trans hXv

end Cert.MoE

end
-- ==== Proof.Reference.lean ====
/- What the reference computes, at an index, on the extended reals: its gates, its two hidden layers, its output. -/
module

public import proofs.«01_k».proof.Proof.Math
public import proofs.«01_k».proof.Proof.Gen.ReferenceIdeal.Read

@[expose] public section

set_option maxRecDepth 16384

noncomputable section

namespace Cert.MoE.Ref

open Cert.ReferenceIdeal Cert.ReferenceIdeal.Gen Cert.ReferenceIdeal.Read
open Idealize.ShloMosaic

/-- The argument arrays by their indices. -/
def argsIn (x0 : Vec Ideal S2048x1024 .f32) (x1 : Vec Ideal S8x2048x1024 .f32) (x2 : Vec Ideal S8x2048 .f32)
    (x3 : Vec Ideal S8x2048x2048 .f32) (x4 : Vec Ideal S8x2048 .f32) (x5 : Vec Ideal S8x1024x2048 .f32) (x6 : Vec Ideal S8x1024 .f32)
    (x7 : Vec Ideal S64x1024 .f32) (x8 : Vec Ideal S64 .f32) (x9 : Vec Ideal S8x64 .f32) (x10 : Vec Ideal S8 .f32) : Args where
  x t d := x0 (ix2 t d)
  w1 e h d := x1 (ix3 e h d)
  b1 e h := x2 (ix2 e h)
  w2 e h k := x3 (ix3 e h k)
  b2 e h := x4 (ix2 e h)
  w3 e o k := x5 (ix3 e o k)
  b3 e o := x6 (ix2 e o)
  wg1 g d := x7 (ix2 g d)
  bg1 g := x8 (ix1 g)
  wg2 e g := x9 (ix2 e g)
  bg2 e := x10 (ix1 e)

variable (x0 : Vec Ideal S2048x1024 .f32) (x1 : Vec Ideal S8x2048x1024 .f32) (x2 : Vec Ideal S8x2048 .f32)
  (x3 : Vec Ideal S8x2048x2048 .f32) (x4 : Vec Ideal S8x2048 .f32) (x5 : Vec Ideal S8x1024x2048 .f32) (x6 : Vec Ideal S8x1024 .f32)
  (x7 : Vec Ideal S64x1024 .f32) (x8 : Vec Ideal S64 .f32) (x9 : Vec Ideal S8x64 .f32) (x10 : Vec Ideal S8 .f32)

/-- The reference's logits. -/
theorem logit_at (t : Fin 2048) (e : Fin 8) :
    (val_main_v10 x0 x7 x8 x9 x10 (ix2 t e) : EReal) = (argsIn x0 x1 x2 x3 x4 x5 x6 x7 x8 x9 x10).logit e t := by
  have h : (val_main_v10 x0 x7 x8 x9 x10 (ix2 t e) : EReal)
      = ∑ g : Fin 64, max (∑ d : Fin 1024, x0 (ix2 t d) * x7 (ix2 g d) + x8 (ix1 g)) 0 * x9 (ix2 e g) + x10 (ix1 e) := by
    pointwise [val_main_v10, val_main_v9, val_main_v8, val_main_v7, val_main_v6, val_main_v5, val_main_v4, val_main_v3, val_main_v2,
      val_main_v1, val_main_v0, val_main_call0_v0, val_main_call0_cst]
  refine h.trans ?_
  show _ = ∑ g : Fin 64, x9 (ix2 e g) * max (∑ d : Fin 1024, x7 (ix2 g d) * x0 (ix2 t d) + x8 (ix1 g)) 0 + x10 (ix1 e)
  refine congrArg (· + (x10 (ix1 e) : EReal)) (Finset.sum_congr rfl fun g _ => ?_)
  refine (mul_comm (G := EReal) _ _).trans (congrArg (fun y : EReal => (x9 (ix2 e g) : EReal) * max (y + x8 (ix1 g)) 0) ?_)
  exact Finset.sum_congr rfl fun d _ => mul_comm (G := EReal) _ _

/-- The reference's largest logit. -/
theorem top_at (t : Fin 2048) : (val_main_v13 x0 x7 x8 x9 x10 (ix1 t) : EReal) = (argsIn x0 x1 x2 x3 x4 x5 x6 x7 x8 x9 x10).top t := by
  have h : (val_main_v13 x0 x7 x8 x9 x10 (ix1 t) : EReal) = max (Ideal.ofBits FTy.f32 4286578688#32 : EReal)
      (Finset.fold max (Ideal.ofBits FTy.f32 4286578688#32 : EReal) (fun e : Fin 8 => (val_main_v10 x0 x7 x8 x9 x10 (ix2 t e) : EReal)) Finset.univ) := by
    pointwise [val_main_v13, val_main_v12, val_main_v11, val_main_cst, val_main_cst_0]
  refine h.trans ?_
  rw [ofBits_neg_inf, max_eq_right bot_le]
  unfold Args.top
  rw [ofBits_neg_inf]
  exact congrArg (fun f => Finset.fold max (⊥ : EReal) f Finset.univ) (funext fun e => logit_at x0 x1 x2 x3 x4 x5 x6 x7 x8 x9 x10 t e)

/-- The reference's gates. -/
theorem gate_at (t : Fin 2048) (e : Fin 8) :
    (val_main_v21 x0 x7 x8 x9 x10 (ix2 t e) : EReal) = (argsIn x0 x1 x2 x3 x4 x5 x6 x7 x8 x9 x10).gate e t := by
  have h : (val_main_v21 x0 x7 x8 x9 x10 (ix2 t e) : EReal)
      = Ideal.div (Ideal.exp ((val_main_v10 x0 x7 x8 x9 x10 (ix2 t e) : EReal) - val_main_v13 x0 x7 x8 x9 x10 (ix1 t)))
        (∑ e' : Fin 8, Ideal.exp ((val_main_v10 x0 x7 x8 x9 x10 (ix2 t e') : EReal) - val_main_v13 x0 x7 x8 x9 x10 (ix1 t))) := by
    pointwise [val_main_v21, val_main_v20, val_main_v19, val_main_v18, val_main_v17, val_main_v16, val_main_v15, val_main_v14, val_main_cst_1]
  refine h.trans ?_
  unfold Args.gate
  simp only [logit_at x0 x1 x2 x3 x4 x5 x6 x7 x8 x9 x10, top_at x0 x1 x2 x3 x4 x5 x6 x7 x8 x9 x10]

/-- The reference's first hidden layer. -/
theorem h1_at (e : Fin 8) (t h : Fin 2048) :
    (val_main_v27 x0 x1 x2 (ix3 e t h) : EReal) = (argsIn x0 x1 x2 x3 x4 x5 x6 x7 x8 x9 x10).h1 e h t := by
  show _ = max (∑ d : Fin 1024, x1 (ix3 e h d) * x0 (ix2 t d) + x2 (ix2 e h) : EReal) 0
  pointwise [val_main_v27, val_main_v26, val_main_v25, val_main_v24, val_main_v23, val_main_v22, val_main_call1_v0, val_main_call1_cst]

/-- The reference's second hidden layer. -/
theorem h2_at (e : Fin 8) (t h : Fin 2048) :
    (val_main_v32 x0 x1 x2 x3 x4 (ix3 e t h) : EReal) = (argsIn x0 x1 x2 x3 x4 x5 x6 x7 x8 x9 x10).h2 e h t := by
  have h' : (val_main_v32 x0 x1 x2 x3 x4 (ix3 e t h) : EReal)
      = max (∑ k : Fin 2048, (val_main_v27 x0 x1 x2 (ix3 e t k) : EReal) * x3 (ix3 e h k) + x4 (ix2 e h)) 0 := by
    pointwise [val_main_v32, val_main_v31, val_main_v30, val_main_v29, val_main_v28, val_main_call2_v0, val_main_call2_cst]
  refine h'.trans (congrArg (fun y : EReal => max (y + x4 (ix2 e h)) 0) (Finset.sum_congr rfl fun k _ => ?_))
  rw [h1_at x0 x1 x2 x3 x4 x5 x6 x7 x8 x9 x10]
  exact mul_comm (G := EReal) _ _

/-- THE REFERENCE: its result at a token and an output is the mixture of the experts there. -/
theorem out_at (t : Fin 2048) (o : Fin 1024) :
    (val_main_v37 x0 x1 x2 x3 x4 x5 x6 x7 x8 x9 x10 (ix2 t o) : EReal) = (argsIn x0 x1 x2 x3 x4 x5 x6 x7 x8 x9 x10).out o t := by
  have h : (val_main_v37 x0 x1 x2 x3 x4 x5 x6 x7 x8 x9 x10 (ix2 t o) : EReal)
      = ∑ e : Fin 8, (∑ k : Fin 2048, (val_main_v32 x0 x1 x2 x3 x4 (ix3 e t k) : EReal) * x5 (ix3 e o k) + x6 (ix2 e o))
          * val_main_v21 x0 x7 x8 x9 x10 (ix2 t e) := by
    pointwise [val_main_v37, val_main_v36, val_main_v35, val_main_v34, val_main_v33]
  refine h.trans (Finset.sum_congr rfl fun e _ => ?_)
  simp only [h2_at x0 x1 x2 x3 x4 x5 x6 x7 x8 x9 x10, gate_at x0 x1 x2 x3 x4 x5 x6 x7 x8 x9 x10]
  rfl

end Cert.MoE.Ref

end
-- ==== Proof.Finite.lean ====
/- The precondition read: when the gating network's inputs are finite, each of their elements is a real number. -/
module

public import proofs.«01_k».proof.Defs
public import proofs.«01_k».proof.Proof.Gen.Pre_gating_finite
public import proofs.«01_k».proof.Proof.Reads

@[expose] public section

set_option maxRecDepth 16384

noncomputable section

namespace Cert.MoE

open Cert.KernelIdeal Cert.KernelIdeal.Gen
open Idealize.ShloMosaic Idealize.ShloMosaic.TcCoe

/-- The bits of positive infinity are the greatest extended real. -/
theorem ofBits_pos_inf : (Ideal.ofBits FTy.f32 2139095040#32 : EReal) = ⊤ := by
  simp [Ideal.ofBits, Ideal.ieee]

/-- An element whose absolute value tests below positive infinity is a real number. -/
theorem real_of_test (x : EReal) (h : Ideal.cmp CmpFPredicate.olt (max x (-x)) (Ideal.ofBits FTy.f32 2139095040#32) = 1#1) :
    ∃ r : ℝ, x = r := by
  rw [ofBits_pos_inf] at h
  have hlt : max x (-x) < ⊤ := by
    by_contra hn
    have : Ideal.cmp CmpFPredicate.olt (max x (-x)) ⊤ = BitVec.ofBool (decide (max x (-x) < ⊤)) := rfl
    rw [this, decide_eq_false hn] at h
    exact absurd h (by decide)
  refine ⟨x.toReal, (EReal.coe_toReal (fun e => ?_) (fun e => ?_)).symm⟩
  · rw [e] at hlt; exact absurd hlt (by simp)
  · rw [e] at hlt; exact absurd hlt (by simp)

variable (m : (ℓ : Loc nD τ sig) → Buf (Elt Ideal) ℓ)

/-- The precondition makes the gating network's inputs real numbers. -/
theorem gating_real (h : Cert.Pre_KernelIdeal_gating_finite (hPre_gating_finite := Cert.Pre_gating_finite.Gen.facts) m) (c : Dev nD) :
    (argsOf m c).GatingReal := by
  obtain ⟨h0, h7, h8, h9, h10⟩ := h c
  exact ⟨fun t d => real_of_test _ (congrFun h0 (ix2 t d)), fun g d => real_of_test _ (congrFun h7 (ix2 g d)),
    fun g => real_of_test _ (congrFun h8 (ix1 g)), fun e g => real_of_test _ (congrFun h9 (ix2 e g)),
    fun e => real_of_test _ (congrFun h10 (ix1 e))⟩

end Cert.MoE

end
-- ==== Proof.Equal.lean ====
/- The two results are equal: the kernel's run ends with its result at the accumulated mixture, which is the reference's
   mixture under the precondition. -/
module

public import proofs.«01_k».proof.Proof.Exit
public import proofs.«01_k».proof.Proof.Output
public import proofs.«01_k».proof.Proof.Reference
public import proofs.«01_k».proof.Proof.Finite
public import proofs.«01_k».proof.Proof.Gen.ReferenceIdeal.Run

@[expose] public section

set_option maxRecDepth 16384

noncomputable section

namespace Cert.MoE

open Idealize.ShloMosaic Idealize.ShloMosaic.TcCoe Idealize.SL.Sem

/-- The mixture of the experts as an array: at a token and an output, the reference's sum there. -/
def mixture (a : Args) : Cert.KernelIdeal.S2048x1024.Idx → Elt Ideal .f32 := fun i => a.out (i 1) (i 0)

/-- The kernel's result, under the precondition: the transpose of its output array is the mixture. -/
theorem kernel_value (m : (ℓ : Loc Cert.KernelIdeal.nD Cert.KernelIdeal.τ Cert.KernelIdeal.sig) → Buf (Elt Ideal) ℓ)
    (h : Cert.Pre_KernelIdeal_gating_finite (hPre_gating_finite := Cert.Pre_gating_finite.Gen.facts) m) (c : Dev Cert.KernelIdeal.nD)
    (A : Cert.KernelIdeal.S1024x2048.Idx → Elt Ideal .f32) (hA : (rdat m c).ArrAt 11 Cert.KernelIdeal.cfg0.N A) :
    transpose Cert.KernelIdeal.S2048x1024 [1, 0] A Cert.KernelIdeal.Gen.transposes_S1024x2048_S2048x1024_1_0 = mixture (argsOf m c) := by
  funext i
  obtain ⟨t, o, rfl⟩ : ∃ (t : Fin 2048) (o : Fin 1024), i = ix2 t o := ⟨i 0, i 1, by funext a; fin_cases a <;> rfl⟩
  have e : transpose Cert.KernelIdeal.S2048x1024 [1, 0] A Cert.KernelIdeal.Gen.transposes_S1024x2048_S2048x1024_1_0 (ix2 t o) = A (ix2 o t) := by
    pointwise
  rw [e]
  exact (output_value m c A hA o t).trans ((gating_real m h c).acc_eq_out o t)

/-- The reference's result is the mixture. -/
theorem reference_value (m' : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v37 m' c
      = mixture (Ref.argsIn (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))) := by
  rw [Cert.ReferenceIdeal.Read.val_main_v37_eq]
  funext i
  obtain ⟨t, o, rfl⟩ : ∃ (t : Fin 2048) (o : Fin 1024), i = ix2 t o := ⟨i 0, i 1, by funext a; fin_cases a <;> rfl⟩
  exact Ref.out_at _ _ _ _ _ _ _ _ _ _ _ t o

/-- THE VALUE CLAIM: from memories that agree on the arguments, under the precondition, the two programs end with
    equal results and their arguments as launched. -/
theorem equal : Cert.algebraic_KernelIdeal_ReferenceIdeal_pre_gating_finite (hKernelIdeal := Cert.KernelIdeal.Gen.facts)
    (hReferenceIdeal := Cert.ReferenceIdeal.Gen.facts) (hPre_gating_finite := Cert.Pre_gating_finite.Gen.facts) := by
  intro m g m' g' hpre hagree
  refine ⟨fun c => mixture (argsOf m c), ?_, ?_⟩
  · refine (θ_run _ _ _).mono (fun r h c => ?_) (ends m g)
    obtain ⟨⟨A, hA, hv⟩, hargs⟩ := h.1 c
    exact ⟨hv.trans (kernel_value m hpre c A hA), hargs⟩
  · refine (θ_run _ _ _).mono (fun r h c => ?_) (Cert.ReferenceIdeal.Value.run (F := Ideal) m' g')
    obtain ⟨h0, h1, h2, h3, h4, h5, h6, h7, h8, h9, h10⟩ := hagree c
    refine ⟨(h c).1.trans ((reference_value m' c).trans ?_), (h c).2⟩
    rw [h0, h1, h2, h3, h4, h5, h6, h7, h8, h9, h10]
    rfl

end Cert.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_gating_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Exit
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel on the bits: its arguments end as launched, every counter at zero. -/
theorem frame_kernel : Cert.quiescent_Kernel (hKernel := Cert.Kernel.Gen.facts) := by
  intro m g _
  rw [Cert.Same.defs_same, Cert.Same.main_same]
  exact Cert.MoE.frame (F := Bits) m g

/-- The kernel on the exact numbers: its arguments end as launched, every counter at zero. -/
theorem frame_ideal : Cert.quiescent_KernelIdeal (hKernelIdeal := Cert.KernelIdeal.Gen.facts) :=
  fun m g _ => Cert.MoE.frame (F := Ideal) m g

/-- The reference: its arguments end as launched, and it has no counter. -/
theorem frame_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Everything claimed: the three frames, that the two kernels are one program, and that the results are equal. -/
theorem claim : Cert.Claim :=
  ⟨Cert.Kernel.Gen.facts, Cert.KernelIdeal.Gen.facts, Cert.ReferenceIdeal.Gen.facts, Cert.Pre_gating_finite.Gen.facts,
    frame_kernel, frame_ideal, fun m g _ => frame_ideal m g trivial, frame_reference,
    fun m g _ => frame_reference m g trivial, trivial, Cert.MoE.equal⟩

end Cert.Proof

end
